-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x512 : Shape := ⟨2, ![1024, 512]⟩
abbrev S512x512 : Shape := ⟨2, ![512, 512]⟩
abbrev S64x512 : Shape := ⟨2, ![64, 512]⟩
abbrev S_ : Shape := ⟨0, ![]⟩
abbrev S8 : Shape := ⟨1, ![8]⟩
abbrev S1 : Shape := ⟨1, ![1]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S1024x512, .f32⟩
  | .local _ .vmem, ⟨1, _⟩ => ⟨S512x512, .f32⟩
  | .local _ .vmem, ⟨2, _⟩ => ⟨S512x512, .f32⟩
  | .local _ .vmem, ⟨3, _⟩ => ⟨S64x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_7 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v12 : BitVec 32 := Scalar.addi v8 c0_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  ![0, v12.toNat, v11.toNat]
def k0_off2 (d0 : Dev nD) : Fin 3 → Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  ![0, v8.toNat, v10.toNat]
def k0_dev1 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v63 : BitVec 32 := Scalar.muli v2 c2_i32_36
  let v64 : BitVec 32 := Scalar.addi c0_i32_37 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v65 : BitVec 32 := Scalar.muli v6 c1_i32_38
  let v66 : BitVec 32 := Scalar.addi v64 v65
  v66.toNat
def k0_dev2 (d0 : Dev nD) : Nat :=
  let c0_i32_41 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_40 : BitVec 32 := 2#32
  let v67 : BitVec 32 := Scalar.muli v7 c2_i32_40
  let v68 : BitVec 32 := Scalar.addi c0_i32_41 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v69 : BitVec 32 := Scalar.muli v5 c1_i32_42
  let v70 : BitVec 32 := Scalar.addi v68 v69
  v70.toNat
def k0_dev3 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v73 : BitVec 32 := Scalar.muli v2 c2_i32_47
  let v74 : BitVec 32 := Scalar.addi c0_i32_48 v73
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v75 : BitVec 32 := Scalar.muli v6 c1_i32_49
  let v76 : BitVec 32 := Scalar.addi v74 v75
  v76.toNat
def k0_off3 (d0 : Dev nD) (c64_i32_52 : BitVec 32) : Fin 3 → Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v82 : BitVec 32 := Scalar.addi v8 c64_i32_52
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  ![0, v82.toNat, v10.toNat]
def k0_dev4 (d0 : Dev nD) : Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_56 : BitVec 32 := 2#32
  let v83 : BitVec 32 := Scalar.muli v2 c2_i32_56
  let v84 : BitVec 32 := Scalar.addi c0_i32_57 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_58 : BitVec 32 := 1#32
  let v85 : BitVec 32 := Scalar.muli v6 c1_i32_58
  let v86 : BitVec 32 := Scalar.addi v84 v85
  v86.toNat
def k0_dev5 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v95 : BitVec 32 := Scalar.muli v2 c2_i32_65
  let v96 : BitVec 32 := Scalar.addi c0_i32_66 v95
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v97 : BitVec 32 := Scalar.muli v6 c1_i32_67
  let v98 : BitVec 32 := Scalar.addi v96 v97
  v98.toNat
def k0_dev6 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v107 : BitVec 32 := Scalar.muli v2 c2_i32_74
  let v108 : BitVec 32 := Scalar.addi c0_i32_75 v107
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v109 : BitVec 32 := Scalar.muli v6 c1_i32_76
  let v110 : BitVec 32 := Scalar.addi v108 v109
  v110.toNat
def k0_dev7 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v119 : BitVec 32 := Scalar.muli v2 c2_i32_83
  let v120 : BitVec 32 := Scalar.addi c0_i32_84 v119
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v121 : BitVec 32 := Scalar.muli v6 c1_i32_85
  let v122 : BitVec 32 := Scalar.addi v120 v121
  v122.toNat
def k0_dev8 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v131 : BitVec 32 := Scalar.muli v2 c2_i32_92
  let v132 : BitVec 32 := Scalar.addi c0_i32_93 v131
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_94 : BitVec 32 := 1#32
  let v133 : BitVec 32 := Scalar.muli v6 c1_i32_94
  let v134 : BitVec 32 := Scalar.addi v132 v133
  v134.toNat
def k0_dev9 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v143 : BitVec 32 := Scalar.muli v2 c2_i32_101
  let v144 : BitVec 32 := Scalar.addi c0_i32_102 v143
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v145 : BitVec 32 := Scalar.muli v6 c1_i32_103
  let v146 : BitVec 32 := Scalar.addi v144 v145
  v146.toNat
def k0_dev10 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v155 : BitVec 32 := Scalar.muli v2 c2_i32_110
  let v156 : BitVec 32 := Scalar.addi c0_i32_111 v155
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_112 : BitVec 32 := 1#32
  let v157 : BitVec 32 := Scalar.muli v6 c1_i32_112
  let v158 : BitVec 32 := Scalar.addi v156 v157
  v158.toNat
def k0_off4 (d0 : Dev nD) (c0_i32_126 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v178 : BitVec 32 := Scalar.addi v8 c0_i32_126
  let v182 : Index := Scalar.indexCast v178
  let c0_130 : Index := 0#32
  ![v182.toNat, 0]
def k0_off5 (d0 : Dev nD) (c0_i32_126 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v178 : BitVec 32 := Scalar.addi v8 c0_i32_126
  let c0_i32_136 : BitVec 32 := 0#32
  ![v178.toNat, 0]
def k0_dev11 (d0 : Dev nD) : Nat :=
  let c0_i32_134 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_133 : BitVec 32 := 2#32
  let v184 : BitVec 32 := Scalar.muli v7 c2_i32_133
  let v185 : BitVec 32 := Scalar.addi c0_i32_134 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_135 : BitVec 32 := 1#32
  let v186 : BitVec 32 := Scalar.muli v5 c1_i32_135
  let v187 : BitVec 32 := Scalar.addi v185 v186
  v187.toNat
def k0_dev12 (d0 : Dev nD) : Nat :=
  let c0_i32_158 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_157 : BitVec 32 := 2#32
  let v214 : BitVec 32 := Scalar.muli v7 c2_i32_157
  let v215 : BitVec 32 := Scalar.addi c0_i32_158 v214
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_159 : BitVec 32 := 1#32
  let v216 : BitVec 32 := Scalar.muli v5 c1_i32_159
  let v217 : BitVec 32 := Scalar.addi v215 v216
  v217.toNat
def k0_dev13 (d0 : Dev nD) : Nat :=
  let c0_i32_182 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_181 : BitVec 32 := 2#32
  let v244 : BitVec 32 := Scalar.muli v7 c2_i32_181
  let v245 : BitVec 32 := Scalar.addi c0_i32_182 v244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v246 : BitVec 32 := Scalar.muli v5 c1_i32_183
  let v247 : BitVec 32 := Scalar.addi v245 v246
  v247.toNat
def k0_dev14 (d0 : Dev nD) : Nat :=
  let c0_i32_206 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_205 : BitVec 32 := 2#32
  let v274 : BitVec 32 := Scalar.muli v7 c2_i32_205
  let v275 : BitVec 32 := Scalar.addi c0_i32_206 v274
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_207 : BitVec 32 := 1#32
  let v276 : BitVec 32 := Scalar.muli v5 c1_i32_207
  let v277 : BitVec 32 := Scalar.addi v275 v276
  v277.toNat
def k0_dev15 (d0 : Dev nD) : Nat :=
  let c0_i32_230 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_229 : BitVec 32 := 2#32
  let v304 : BitVec 32 := Scalar.muli v7 c2_i32_229
  let v305 : BitVec 32 := Scalar.addi c0_i32_230 v304
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_231 : BitVec 32 := 1#32
  let v306 : BitVec 32 := Scalar.muli v5 c1_i32_231
  let v307 : BitVec 32 := Scalar.addi v305 v306
  v307.toNat
def k0_dev16 (d0 : Dev nD) : Nat :=
  let c0_i32_254 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_253 : BitVec 32 := 2#32
  let v334 : BitVec 32 := Scalar.muli v7 c2_i32_253
  let v335 : BitVec 32 := Scalar.addi c0_i32_254 v334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_255 : BitVec 32 := 1#32
  let v336 : BitVec 32 := Scalar.muli v5 c1_i32_255
  let v337 : BitVec 32 := Scalar.addi v335 v336
  v337.toNat
def k0_dev17 (d0 : Dev nD) : Nat :=
  let c0_i32_278 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_277 : BitVec 32 := 2#32
  let v364 : BitVec 32 := Scalar.muli v7 c2_i32_277
  let v365 : BitVec 32 := Scalar.addi c0_i32_278 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_279 : BitVec 32 := 1#32
  let v366 : BitVec 32 := Scalar.muli v5 c1_i32_279
  let v367 : BitVec 32 := Scalar.addi v365 v366
  v367.toNat
def k0_dev18 (d0 : Dev nD) : Nat :=
  let c0_i32_302 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_301 : BitVec 32 := 2#32
  let v394 : BitVec 32 := Scalar.muli v7 c2_i32_301
  let v395 : BitVec 32 := Scalar.addi c0_i32_302 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_303 : BitVec 32 := 1#32
  let v396 : BitVec 32 := Scalar.muli v5 c1_i32_303
  let v397 : BitVec 32 := Scalar.addi v395 v396
  v397.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.OnKernelIdeal.Cells.lean ====
/-
# 01_k — devices, blocks, contents and cells

The 2 × 2 mesh numbers device `(x, y)` as `2 x + y`. This module names what the exchange is made of: the
two peers of a device, the blocks of 64 rows its transfers move, the contents each block holds once the transfer
into it has landed, the semaphores counted by the transfers, and the schedule that says which transfer raises which
semaphore and what its completion hands to the waiting device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state: the staging pipeline's, and rounds of duties named by `Bool` at every semaphore. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Peers -/

set_option backward.proofsInPublic true in
/-- The device in the same row of the mesh, `(x, 1 - y)`. -/
def yp (c : Dev nD) : Dev nD := ⟨(2 * (c.val / 2) + 1) - c.val % 2, by have : c.val < 4 := c.isLt; show _ < 4; omega⟩
set_option backward.proofsInPublic true in
/-- The device in the same column of the mesh, `(1 - x, y)`. -/
def xp (c : Dev nD) : Dev nD := ⟨(c.val % 2 + 2) - 2 * (c.val / 2), by have : c.val < 4 := c.isLt; show _ < 4; omega⟩

theorem yp_yp (c : Dev nD) : yp (yp c) = c := by revert c; decide
theorem xp_xp (c : Dev nD) : xp (xp c) = c := by revert c; decide
theorem yp_div (c : Dev nD) : (yp c).val / 2 = c.val / 2 := by revert c; decide
theorem yp_mod (c : Dev nD) : (yp c).val % 2 = 1 - c.val % 2 := by revert c; decide
theorem xp_div (c : Dev nD) : (xp c).val / 2 = 1 - c.val / 2 := by revert c; decide
theorem xp_mod (c : Dev nD) : (xp c).val % 2 = c.val % 2 := by revert c; decide

/-- Exchanging every device with its row peer, and with its column peer. -/
def yE : Dev nD ≃ Dev nD := ⟨yp, yp, yp_yp, yp_yp⟩
def xE : Dev nD ≃ Dev nD := ⟨xp, xp, xp_xp, xp_xp⟩

/-! ## Blocks -/

/-- The operand in HBM; the window of the result; the two receive buffers and the staging block in VMEM. -/
abbrev xM : Memref sig .tc .hbm S1x1024x1024 .f32 := Memref.whole main_arg0
abbrev outM : Memref sig .tc .vmem S1024x512 .f32 := Memref.whole cc0_stg0_0
abbrev yM : Memref sig .tc .vmem S512x512 .f32 := Memref.whole cc0_scratch0
abbrev kM : Memref sig .tc .vmem S512x512 .f32 := Memref.whole cc0_scratch1
abbrev sM : Memref sig .tc .vmem S64x512 .f32 := Memref.whole cc0_scratch2

/-- The block of 64 rows and 512 columns of the operand at the offset `off`. -/
abbrev xBlk (off : Fin 3 → ℕ) (h : ∀ a, off a + S1x64x512.size a ≤ S1x1024x1024.size a) : Memref sig .tc .hbm S64x512 .f32 :=
  (xM.slice (Rect.unit (s := S1x1024x1024) off S1x64x512.size h) (fun _ => rfl)).squeeze S64x512 squeezes_S1x64x512_S64x512
/-- The block of 64 rows of the result's window at the offset `off`. -/
abbrev outBlk (off : Fin 2 → ℕ) (h : ∀ a, off a + S64x512.size a ≤ S1024x512.size a) : Memref sig .tc .vmem S64x512 .f32 :=
  outM.slice (Rect.unit (s := S1024x512) off S64x512.size h) (fun _ => rfl)

/-- Where device `c`'s kept chunk `k` of the operand lies: rows of `c`'s half, columns of `c`'s half. -/
abbrev keepOff (c : Dev nD) (k : Fin 8) : Fin 3 → ℕ := ![0, 512 * (c.val / 2) + 64 * k.val, 512 * (c.val % 2)]
/-- Where the chunk `k` it sends to its row peer lies: rows of `c`'s half, columns of the other half. -/
abbrev sendOff (c : Dev nD) (k : Fin 8) : Fin 3 → ℕ := ![0, 512 * (c.val / 2) + 64 * k.val, 512 - 512 * (c.val % 2)]
/-- Where the rows of chunk `k` written by device `c` lie in the result. -/
abbrev outOff (c : Dev nD) (k : Fin 8) : Fin 2 → ℕ := ![512 * (c.val / 2) + 64 * k.val, 0]

theorem keepOff_inb (c : Dev nD) (k : Fin 8) : ∀ a, keepOff c k a + S1x64x512.size a ≤ S1x1024x1024.size a := by
  revert c k; decide
theorem sendOff_inb (c : Dev nD) (k : Fin 8) : ∀ a, sendOff c k a + S1x64x512.size a ≤ S1x1024x1024.size a := by
  revert c k; decide
theorem outOff_inb (c : Dev nD) (k : Fin 8) : ∀ a, outOff c k a + S64x512.size a ≤ S1024x512.size a := by
  revert c k; decide
theorem rowOff_inb (k : Fin 8) : ∀ a, (![64 * k.val, 0] : Fin 2 → ℕ) a + S64x512.size a ≤ S512x512.size a := by
  revert k; decide

abbrev keepB (c : Dev nD) (k : Fin 8) := xBlk (keepOff c k) (keepOff_inb c k)
abbrev sendB (c : Dev nD) (k : Fin 8) := xBlk (sendOff c k) (sendOff_inb c k)
abbrev outB (c : Dev nD) (k : Fin 8) := outBlk (outOff c k) (outOff_inb c k)
/-- Rows `64 k` to `64 k + 63`, of either receive buffer. -/
abbrev rowR (k : Fin 8) : Rect S512x512 := Rect.unit (s := S512x512) ![64 * k.val, 0] S64x512.size (rowOff_inb k)
abbrev yB (k : Fin 8) : Memref sig .tc .vmem S64x512 .f32 := yM.slice (rowR k) (fun _ => rfl)
abbrev kB (k : Fin 8) : Memref sig .tc .vmem S64x512 .f32 := kM.slice (rowR k) (fun _ => rfl)

/-! ## Contents -/

variable (m : (ℓ : Loc nD τ sig) → Buf (Elt F) ℓ) (ρ : Dev nD → PrngReg)

/-- Device `c`'s block of the operand. -/
abbrev X (c : Dev nD) : main_arg0.ty.Contents (Elt F) := m ((c : Thread nD τ).loc main_arg0)

set_option backward.proofsInPublic true in
/-- The quarter of the operand device `c` keeps: its half of the rows, its half of the columns. -/
def keptX (c : Dev nD) : cc0_scratch1.ty.Contents (Elt F) := fun i : S512x512.Idx =>
  X m c (ix3 (n0 := 1) (n1 := 1024) (n2 := 1024) 0
    ⟨512 * (c.val / 2) + (i 0).val, by have : c.val < 4 := c.isLt; have : (i 0).val < 512 := (i 0).isLt; omega⟩
    ⟨512 * (c.val % 2) + (i 1).val, by have : (i 1).val < 512 := (i 1).isLt; omega⟩)
set_option backward.proofsInPublic true in
/-- The quarter it sends to its row peer: its half of the rows, the other half of the columns. -/
def sentX (c : Dev nD) : cc0_scratch0.ty.Contents (Elt F) := fun i : S512x512.Idx =>
  X m c (ix3 (n0 := 1) (n1 := 1024) (n2 := 1024) 0
    ⟨512 * (c.val / 2) + (i 0).val, by have : c.val < 4 := c.isLt; have : (i 0).val < 512 := (i 0).isLt; omega⟩
    ⟨512 - 512 * (c.val % 2) + (i 1).val, by have : (i 1).val < 512 := (i 1).isLt; omega⟩)
set_option backward.proofsInPublic true in
/-- The first chunk of what it sends, as the staging block holds it. -/
def stagedX (c : Dev nD) : cc0_scratch2.ty.Contents (Elt F) := fun i : S64x512.Idx =>
  sentX m c (ix2 (n0 := 512) (n1 := 512) ⟨(i 0).val, by have : (i 0).val < 64 := (i 0).isLt; omega⟩ (i 1))
/-- The quarter of the sum device `c` computes: what it kept plus what its row peer sent. -/
def quarter (c : Dev nD) : S512x512.Idx → Elt F .f32 := fun i => FloatOps.addf (keptX m c i) (sentX m (yp c) i)

set_option backward.proofsInPublic true in
/-- The device of `c`'s column of the mesh that computes row `i` of the result. -/
def owner (c : Dev nD) (i : Fin 1024) : Dev nD := ⟨2 * (i.val / 512) + c.val % 2, by have := i.isLt; show _ < 4; omega⟩

set_option backward.proofsInPublic true in
/-- The result on device `c`: each row's quarter by the device of `c`'s column that computes it. -/
def outX (c : Dev nD) : cc0_stg0_0.ty.Contents (Elt F) := fun i : S1024x512.Idx =>
  quarter m (owner c (i 0)) (ix2 (n0 := 512) (n1 := 512) ⟨(i 0).val % 512, Nat.mod_lt _ (by decide)⟩ (i 1))

theorem owner_xp (c : Dev nD) (i : Fin 1024) : owner (xp c) i = owner c i := Fin.ext (by
  show 2 * (i.val / 512) + (xp c).val % 2 = 2 * (i.val / 512) + c.val % 2; rw [xp_mod])
/-- The two devices of a column of the mesh hold the same result. -/
theorem outX_xp (c : Dev nD) : outX m (xp c) = outX m c := by
  funext i
  exact congrArg (fun o => quarter m o (ix2 (n0 := 512) (n1 := 512) ⟨(i (0 : Fin 2)).val % 512, Nat.mod_lt _ (by decide)⟩ (i (1 : Fin 2)))) (owner_xp c (i (0 : Fin 2)))

/-! ## Points-to assertions of the blocks -/

/-- Chunk `k` of the kept / of the sent quarter of device `c`'s operand. -/
def keepPts (c : Dev nD) (k : Fin 8) : sProp 𝕄 :=
  (keepB c k).view.loc (c : Thread nD τ) ↦[(keepB c k).view.set]{fullShare} X m c
def sendPts (c : Dev nD) (k : Fin 8) : sProp 𝕄 :=
  (sendB c k).view.loc (c : Thread nD τ) ↦[(sendB c k).view.set]{fullShare} X m c
/-- Chunk `k` of the two receive buffers, the staging block, and chunk `k` of the rows device `w` computes of the
    result's window on device `c`, at any contents. -/
def yPts (c : Dev nD) (k : Fin 8) (f : Buf (Elt F) ((c : Thread nD τ).loc cc0_scratch0)) : sProp 𝕄 :=
  (yB k).view.loc (c : Thread nD τ) ↦[(yB k).view.set]{fullShare} f
def kPts (c : Dev nD) (k : Fin 8) (f : Buf (Elt F) ((c : Thread nD τ).loc cc0_scratch1)) : sProp 𝕄 :=
  (kB k).view.loc (c : Thread nD τ) ↦[(kB k).view.set]{fullShare} f
def sPts (c : Dev nD) (f : Buf (Elt F) ((c : Thread nD τ).loc cc0_scratch2)) : sProp 𝕄 :=
  (sM : Memref sig .tc .vmem S64x512 .f32).view.loc (c : Thread nD τ) ↦[(sM : Memref sig .tc .vmem S64x512 .f32).view.set]{fullShare} f
def outPts (c w : Dev nD) (k : Fin 8) (f : Buf (Elt F) ((c : Thread nD τ).loc cc0_stg0_0)) : sProp 𝕄 :=
  (outB w k).view.loc (c : Thread nD τ) ↦[(outB w k).view.set]{fullShare} f

instance keepPts_storable (c k) : BI.Storable (upEmb : UEmb _ 𝕄) (keepPts (F := F) m c k) := by unfold keepPts; infer_instance
instance sendPts_storable (c k) : BI.Storable (upEmb : UEmb _ 𝕄) (sendPts (F := F) m c k) := by unfold sendPts; infer_instance
instance yPts_storable (c k f) : BI.Storable (upEmb : UEmb _ 𝕄) (yPts (F := F) c k f) := by unfold yPts; infer_instance
instance kPts_storable (c k f) : BI.Storable (upEmb : UEmb _ 𝕄) (kPts (F := F) c k f) := by unfold kPts; infer_instance
instance sPts_storable (c f) : BI.Storable (upEmb : UEmb _ 𝕄) (sPts (F := F) c f) := by unfold sPts; infer_instance
instance outPts_storable (c w k f) : BI.Storable (upEmb : UEmb _ 𝕄) (outPts (F := F) c w k f) := by unfold outPts; infer_instance

/-! ## Semaphores -/

abbrev barS : Sem sig := (SemArray.scalar (sig.barrier 0 rfl) : Sems sig S_).sem
/-- The transfer semaphores: the staging copy's, and chunk `k` of kind `p` — 0 the local copies, 1 and 2 the sends and
    receipts of the row exchange, 3 and 4 those of the column exchange. -/
abbrev stageS : DmaSem sig := 1
set_option backward.proofsInPublic true in
abbrev chunkS (p : Fin 5) (k : Fin 8) : DmaSem sig := ⟨2 + 8 * p.val + k.val, by have := p.isLt; have := k.isLt; show _ < 42; omega⟩

/-- The kernel's own semaphores: the staging copy's and the five kinds' eight each; and the barrier beside them. -/
abbrev OI : Type := Unit ⊕ (Fin 5 × Fin 8)
abbrev CI : Type := Unit ⊕ OI
abbrev osem : OI → SemLoc sig := fun | .inl _ => .dma stageS | .inr pk => .dma (chunkS pk.1 pk.2)
abbrev csem : CI → SemLoc sig := fun | .inl _ => .reg barS | .inr o => osem o

abbrev barCell (c : Dev nD) : GSem nD τ sig := ((c : Thread nD τ), .reg barS)
abbrev stageCell (c : Dev nD) : GSem nD τ sig := ((c : Thread nD τ), .dma stageS)
abbrev chunkCell (c : Dev nD) (p : Fin 5) (k : Fin 8) : GSem nD τ sig := ((c : Thread nD τ), .dma (chunkS p k))
abbrev ocell (c : Dev nD) (o : OI) : GSem nD τ sig := ((c : Thread nD τ), osem o)
abbrev kcell (ck : Dev nD × CI) : GSem nD τ sig := ((ck.1 : Thread nD τ), csem ck.2)

/-- What one transfer of 64 rows adds to its semaphores. -/
abbrev N : ℕ := (sM : Memref sig .tc .vmem S64x512 .f32).view.dmaCredit
theorem N_pos : 0 < N := View.dmaCredit_pos _ (by decide)

/-! ## The schedule -/

/-- What the completion of each transfer hands back: a local copy its kept chunk and its source; -/
def localPay (c : Dev nD) (k : Fin 8) : sProp 𝕄 := iprop(kPts c k (keptX m c) ∗ keepPts m c k)
/-- the staging copy the staged first chunk and its source; -/
def stagePay (c : Dev nD) : sProp 𝕄 := iprop(sPts c (stagedX m c) ∗ sendPts m c 0)
/-- a send over the row its source (the first from the staging block); -/
def ysendPay (c : Dev nD) (k : Fin 8) : sProp 𝕄 := if k = 0 then sPts c (stagedX m c) else sendPts m c k
/-- a receipt over the row the chunk the row peer sent; -/
def yrecvPay (c : Dev nD) (k : Fin 8) : sProp 𝕄 := yPts c k (sentX m (yp c))
/-- a send over the column the rows of the result it sent; -/
def xsendPay (c : Dev nD) (k : Fin 8) : sProp 𝕄 := outPts c c k (outX m c)
/-- a receipt over the column the rows of the result the column peer computed. -/
def xrecvPay (c : Dev nD) (k : Fin 8) : sProp 𝕄 := outPts c (xp c) k (outX m c)
/-- The row peer's signal of the barrier hands over its receive buffer, the column peer's the rows of its window of the
    result that this device computes. -/
def barPay (c : Dev nD) (d : Bool) : sProp 𝕄 :=
  if d then bigSep Finset.univ fun k : Fin 8 => iprop(∃ f, yPts (yp c) k f)
  else bigSep Finset.univ fun k : Fin 8 => iprop(∃ f, outPts (xp c) c k f)

/-- The payload of chunk `k` of kind `p`. -/
def chunkPay (c : Dev nD) (p : ℕ) (k : Fin 8) : sProp 𝕄 :=
  match p with
  | 0 => localPay m c k
  | 1 => ysendPay m c k
  | 2 => yrecvPay m c k
  | 3 => xsendPay m c k
  | _ => xrecvPay m c k

set_option backward.proofsInPublic true in
/-- The payload of the transfer semaphore numbered `i`. -/
def dmaPay (c : Dev nD) (i : ℕ) : sProp 𝕄 :=
  if i ≤ 1 then stagePay m c else chunkPay m c ((i - 2) / 8) ⟨(i - 2) % 8, Nat.mod_lt _ (by decide)⟩

instance localPay_storable (c k) : BI.Storable (upEmb : UEmb _ 𝕄) (localPay (F := F) m c k) := by unfold localPay; infer_instance
instance stagePay_storable (c) : BI.Storable (upEmb : UEmb _ 𝕄) (stagePay (F := F) m c) := by unfold stagePay; infer_instance
instance ysendPay_storable (c k) : BI.Storable (upEmb : UEmb _ 𝕄) (ysendPay (F := F) m c k) := by unfold ysendPay; split <;> infer_instance
instance yrecvPay_storable (c k) : BI.Storable (upEmb : UEmb _ 𝕄) (yrecvPay (F := F) m c k) := by unfold yrecvPay; infer_instance
instance xsendPay_storable (c k) : BI.Storable (upEmb : UEmb _ 𝕄) (xsendPay (F := F) m c k) := by unfold xsendPay; infer_instance
instance xrecvPay_storable (c k) : BI.Storable (upEmb : UEmb _ 𝕄) (xrecvPay (F := F) m c k) := by unfold xrecvPay; infer_instance
instance barPay_storable (c d) : BI.Storable (upEmb : UEmb _ 𝕄) (barPay (F := F) c d) := by unfold barPay; split <;> infer_instance
instance chunkPay_storable (c p k) : BI.Storable (upEmb : UEmb _ 𝕄) (chunkPay (F := F) m c p k) := by
  unfold chunkPay; split <;> infer_instance
instance dmaPay_storable (c i) : BI.Storable (upEmb : UEmb _ 𝕄) (dmaPay (F := F) m c i) := by
  unfold dmaPay; split <;> infer_instance

/-- The duties of a semaphore in the one round: the barrier's are two, one per peer; a transfer semaphore's is one. -/
def dutiesOf : SemLoc sig → Finset Bool
  | .reg _ => Finset.univ
  | .dma _ => {false}
/-- The units each adds. -/
def amountOf : SemLoc sig → ℕ
  | .reg _ => 1
  | .dma _ => N
/-- What each hands over. -/
def payOf (c : Dev nD) : SemLoc sig → Bool → sProp 𝕄
  | .reg _, d => barPay c d
  | .dma i, _ => dmaPay m c i.val

instance payOf_storable (c s d) : BI.Storable (upEmb : UEmb _ 𝕄) (payOf (F := F) m c s d) := by
  unfold payOf; split <;> infer_instance

/-- The schedule: every semaphore is used in one round. -/
def sched : Rounds.Schedule (GSem nD τ sig) Bool 𝕄 where
  duties g r := if r = 0 then dutiesOf g.2 else ∅
  unitless _ := False
  amount g _ _ := amountOf g.2
  payload g _ d := payOf m g.1.1 g.2 d
  amount_pos g _ _ _ := by
    unfold amountOf
    split
    · exact Nat.one_pos
    · exact N_pos

instance sched_payload_storable (g : GSem nD τ sig) (r : ℕ) (d : Bool) :
    BI.Storable (upEmb : UEmb _ 𝕄) ((sched (F := F) m).payload g r d) := by
  show BI.Storable upEmb (payOf m g.1.1 g.2 d)
  infer_instance

section Sched
variable (c : Dev nD)

theorem duties_bar : (sched (F := F) m).duties (barCell c) 0 = Finset.univ := rfl
theorem duties_dma (i : DmaSem sig) : (sched (F := F) m).duties ((c : Thread nD τ), .dma i) 0 = {false} := rfl
theorem duties_later (g : GSem nD τ sig) : ∀ r, 1 ≤ r → (sched (F := F) m).duties g r = ∅ :=
  fun r hr => if_neg (by omega)
theorem amount_dma (i : DmaSem sig) : (sched (F := F) m).amount ((c : Thread nD τ), .dma i) 0 false = N := rfl

theorem expect_bar : (sched (F := F) m).expect (barCell c) 0 = 2 := rfl
theorem expect_dma (i : DmaSem sig) : (sched (F := F) m).expect ((c : Thread nD τ), .dma i) 0 = N := by
  unfold Schedule.expect Schedule.amountOf; rw [duties_dma, Finset.sum_singleton, amount_dma]

/-- The payload of chunk `k` of kind `p`, read off the semaphore's number. -/
theorem dmaPay_chunk (p : Fin 5) (k : Fin 8) : dmaPay (F := F) m c (chunkS p k).val = chunkPay m c p.val k := by
  have hp := p.isLt; have hk := k.isLt
  show dmaPay m c (2 + 8 * p.val + k.val) = _
  unfold dmaPay
  rw [if_neg (by omega)]
  congr 1
  · omega
  · exact Fin.ext (by show (2 + 8 * p.val + k.val - 2) % 8 = k.val; omega)

theorem payload_dma (i : DmaSem sig) (d : Bool) : (sched (F := F) m).payload ((c : Thread nD τ), .dma i) 0 d = dmaPay m c i.val := rfl
theorem payload_stage (d : Bool) : (sched (F := F) m).payload (stageCell c) 0 d = stagePay m c := rfl
theorem payload_chunk (p : Fin 5) (k : Fin 8) (d : Bool) : (sched (F := F) m).payload (chunkCell c p k) 0 d = chunkPay m c p.val k :=
  dmaPay_chunk m c p k
theorem payload_bar (d : Bool) : (sched (F := F) m).payload (barCell c) 0 d = barPay c d := rfl

/-- What a round hands over: the barrier's both peers' buffers, a transfer semaphore's its one payload. -/
theorem rest_bar : bigSep ((sched (F := F) m).duties (barCell c) 0 \ ∅) (fun d => (sched (F := F) m).payload (barCell c) 0 d)
    = iprop(barPay c true ∗ barPay c false) := by
  rw [Finset.sdiff_empty, duties_bar, bigSep_univ_eq_bigSepL [true, false] (by decide) (by decide), bigSepL_cons_cons, bigSepL_singleton]
  rfl
theorem rest_dma (i : DmaSem sig) : bigSep ((sched (F := F) m).duties ((c : Thread nD τ), .dma i) 0 \ ∅)
    (fun d => (sched (F := F) m).payload ((c : Thread nD τ), .dma i) 0 d) = dmaPay m c i.val := by
  rw [Finset.sdiff_empty, duties_dma, bigSep_singleton, payload_dma]

end Sched

/-! ## What each device owes, and the levels -/

/-- The receipts device `c` still owes its row peer from chunk `n` on, and its column peer. -/
def oweY (c : Dev nD) (n : ℕ) : CellTallies nD τ sig Unit :=
  ∑ k ∈ Finset.univ.filter (fun k : Fin 8 => n ≤ k.val), tallyAt (chunkCell (yp c) 2 k) () N
def oweX (c : Dev nD) (n : ℕ) : CellTallies nD τ sig Unit :=
  ∑ k ∈ Finset.univ.filter (fun k : Fin 8 => n ≤ k.val), tallyAt (chunkCell (xp c) 4 k) () N
/-- After `i` sends over the row and `j` over the column. -/
def owed (c : Dev nD) (i j : ℕ) : CellTallies nD τ sig Unit := oweX c j + oweY c i
/-- At launch both peers' barriers are owed one unit too. -/
def owed₁ (c : Dev nD) : CellTallies nD τ sig Unit := owed c 0 0 + tallyAt (barCell (xp c)) () 1
def owed₀ (c : Dev nD) : CellTallies nD τ sig Unit := owed₁ c + tallyAt (barCell (yp c)) () 1

theorem filter_peel (k : Fin 8) : Finset.univ.filter (fun j : Fin 8 => k.val ≤ j.val)
    = insert k (Finset.univ.filter (fun j : Fin 8 => k.val + 1 ≤ j.val)) := by revert k; decide
theorem not_mem_peel (k : Fin 8) : k ∉ Finset.univ.filter (fun j : Fin 8 => k.val + 1 ≤ j.val) := by
  rw [Finset.mem_filter]; rintro ⟨-, h⟩; omega
theorem filter_done : Finset.univ.filter (fun j : Fin 8 => 8 ≤ j.val) = ∅ := by decide

theorem oweY_peel (c : Dev nD) (k : Fin 8) : oweY c k.val = oweY c (k.val + 1) + tallyAt (chunkCell (yp c) 2 k) () N := by
  unfold oweY; rw [filter_peel, Finset.sum_insert (not_mem_peel k), add_comm]
theorem oweX_peel (c : Dev nD) (k : Fin 8) : oweX c k.val = oweX c (k.val + 1) + tallyAt (chunkCell (xp c) 4 k) () N := by
  unfold oweX; rw [filter_peel, Finset.sum_insert (not_mem_peel k), add_comm]
theorem oweY_done (c : Dev nD) : oweY c 8 = 0 := by unfold oweY; rw [filter_done, Finset.sum_empty]
theorem oweX_done (c : Dev nD) : oweX c 8 = 0 := by unfold oweX; rw [filter_done, Finset.sum_empty]

/-- A send over the row pays its receipt. -/
theorem owed_peelY (c : Dev nD) (k : Fin 8) (j : ℕ) : owed c k.val j = owed c (k.val + 1) j + tallyAt (chunkCell (yp c) 2 k) () N := by
  unfold owed; rw [oweY_peel, add_assoc]
/-- A send over the column pays its receipt. -/
theorem owed_peelX (c : Dev nD) (i : ℕ) (k : Fin 8) : owed c i k.val = owed c i (k.val + 1) + tallyAt (chunkCell (xp c) 4 k) () N := by
  unfold owed; rw [oweX_peel, add_right_comm]
theorem owed_done (c : Dev nD) : owed c 8 8 = 0 := by unfold owed; rw [oweX_done, oweY_done, add_zero]

theorem sum_tally_pos {S : Finset (Fin 8)} {f : Fin 8 → GSem nD τ sig} {g : GSem nD τ sig} {u : Unit}
    (h : 0 < (∑ k ∈ S, (tallyAt (f k) () N : CellTallies nD τ sig Unit)) g u) : ∃ k ∈ S, g = f k := by
  rw [Finset.sum_apply, Finsupp.finset_sum_apply] at h
  obtain ⟨k, hk, hne⟩ := Finset.exists_ne_zero_of_sum_ne_zero (Nat.pos_iff_ne_zero.mp h)
  refine ⟨k, hk, ?_⟩
  rw [tallyAt_apply] at hne
  by_contra hn
  exact hne (if_neg fun h' => hn h'.1)

/-- What is owed is a receipt of a peer, not yet sent. -/
theorem owed_pos {c : Dev nD} {i j : ℕ} {g : GSem nD τ sig} {u : Unit} (h : 0 < owed c i j g u) :
    (∃ k : Fin 8, j ≤ k.val ∧ g = chunkCell (xp c) 4 k) ∨ (∃ k : Fin 8, i ≤ k.val ∧ g = chunkCell (yp c) 2 k) := by
  unfold owed at h
  rw [Pi.add_apply, Finsupp.add_apply] at h
  rcases Nat.eq_zero_or_pos (oweX c j g u) with h0 | h0
  · rw [h0, zero_add] at h
    obtain ⟨k, hk, rfl⟩ := sum_tally_pos h
    exact .inr ⟨k, (Finset.mem_filter.mp hk).2, rfl⟩
  · obtain ⟨k, hk, rfl⟩ := sum_tally_pos h0
    exact .inl ⟨k, (Finset.mem_filter.mp hk).2, rfl⟩
theorem owed₀_pos {c : Dev nD} {g : GSem nD τ sig} {u : Unit} (h : 0 < owed₀ c g u) :
    (∃ k : Fin 8, g = chunkCell (xp c) 4 k) ∨ (∃ k : Fin 8, g = chunkCell (yp c) 2 k) ∨ g = barCell (xp c) ∨ g = barCell (yp c) := by
  unfold owed₀ owed₁ at h
  rw [Pi.add_apply, Finsupp.add_apply, Pi.add_apply, Finsupp.add_apply, tallyAt_apply, tallyAt_apply] at h
  by_contra hn
  rw [not_or, not_or, not_or] at hn
  rw [if_neg (fun h' => hn.2.2.1 h'.1), if_neg (fun h' => hn.2.2.2 h'.1), add_zero, add_zero] at h
  rcases owed_pos h with ⟨k, -, hk⟩ | ⟨k, -, hk⟩
  · exact hn.1 ⟨k, hk⟩
  · exact hn.2.1 ⟨k, hk⟩

def L (g : GSem nD τ sig) : Finset Unit := if g.1.2 = .tc then {()} else ∅
/-- A device waits for a semaphore only while it owes none of the same or a lower level: copies and sends at 0, the
    barrier at 1, the receipts over the row at 2, those over the column at 3. -/
def level : SemLoc sig → ℕ
  | .reg _ => 1
  | .dma i => if i.val < 18 then 0 else if i.val < 26 then 2 else if i.val < 34 then 0 else 3
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem level_local (k : Fin 8) : level (.dma (chunkS 0 k)) = 0 := by revert k; decide
theorem level_yrecv (k : Fin 8) : level (.dma (chunkS 2 k)) = 2 := by revert k; decide
theorem level_xrecv (k : Fin 8) : level (.dma (chunkS 4 k)) = 3 := by revert k; decide

/-- A wait is permitted when everything owed lies at a higher level. -/
theorem mayWait_of (c : Dev nD) (s : SemLoc sig) (O : CellTallies nD τ sig Unit)
    (h : ∀ g u, 0 < O g u → g.1.2 = .tc ∧ level s < level g.2) :
    (levAts L lv : sProp 𝕄) ⊢ MayWait (c : Thread nD τ) s () O :=
  MayOwe.of_cut (L := L) (lev := lv) (level s) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- Waiting below level 2 while sends are left. -/
theorem mayWait_low (c : Dev nD) (s : SemLoc sig) (hs : level s < 2) (i j : ℕ) :
    (levAts L lv : sProp 𝕄) ⊢ MayWait (c : Thread nD τ) s () (owed c i j) :=
  mayWait_of c s _ fun g u hg => by
    rcases owed_pos hg with ⟨k, -, rfl⟩ | ⟨k, -, rfl⟩
    · exact ⟨rfl, by show level s < level (.dma (chunkS 4 k)); rw [level_xrecv]; omega⟩
    · exact ⟨rfl, by show level s < level (.dma (chunkS 2 k)); rw [level_yrecv]; omega⟩
/-- Waiting below level 3 once every send over the row is done. -/
theorem mayWait_mid (c : Dev nD) (s : SemLoc sig) (hs : level s < 3) (j : ℕ) :
    (levAts L lv : sProp 𝕄) ⊢ MayWait (c : Thread nD τ) s () (owed c 8 j) :=
  mayWait_of c s _ fun g u hg => by
    rcases owed_pos hg with ⟨k, -, rfl⟩ | ⟨k, hk, rfl⟩
    · exact ⟨rfl, by show level s < level (.dma (chunkS 4 k)); rw [level_xrecv]; exact hs⟩
    · have := k.isLt; omega
/-- Waiting once nothing is owed. -/
theorem mayWait_done (c : Dev nD) (s : SemLoc sig) :
    (levAts L lv : sProp 𝕄) ⊢ MayWait (c : Thread nD τ) s () (owed c 8 8) := by
  rw [owed_done, MayWait_zero]; iintro -; iempintro
/-- Waiting at level 0 before anything is paid. -/
theorem mayWait_start (c : Dev nD) (s : SemLoc sig) (hs : level s = 0) :
    (levAts L lv : sProp 𝕄) ⊢ MayWait (c : Thread nD τ) s () (owed₀ c) :=
  mayWait_of c s _ fun g u hg => by
    rcases owed₀_pos hg with ⟨k, rfl⟩ | ⟨k, rfl⟩ | rfl | rfl
    · exact ⟨rfl, by show level s < level (.dma (chunkS 4 k)); rw [level_xrecv]; omega⟩
    · exact ⟨rfl, by show level s < level (.dma (chunkS 2 k)); rw [level_yrecv]; omega⟩
    · exact ⟨rfl, by show level s < 1; omega⟩
    · exact ⟨rfl, by show level s < 1; omega⟩

end Cert.KernelIdeal.Own
-- ==== Proof.OnKernelIdeal.Blocks.lean ====
/-
# 01_k — how the buffers divide into blocks, and what a transfer leaves in the block it writes

Each buffer is the separate union of the blocks the transfers move; and a block that was overwritten with what another
block reads holds, element by element, the contents the schedule promises of it.
-/
module

public import proofs.«01_k».proof.Proof.OnKernelIdeal.Cells
public import Idealize.ShloMosaic.Lib.Pipeline.Value

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Where a block's elements lie -/

/-- An element of a block of the operand lies at the block's offset plus its own position. -/
theorem xBlk_row (off : Fin 3 → ℕ) (h) (j : S64x512.Idx) :
    (((xBlk off h).view.emb j : S1x1024x1024.Idx) 0).val = off 0 ∧ (((xBlk off h).view.emb j : S1x1024x1024.Idx) 1).val = off 1 + (j 0).val
      ∧ (((xBlk off h).view.emb j : S1x1024x1024.Idx) 2).val = off 2 + (j 1).val := by
  have e : ((xBlk off h).view.emb j : S1x1024x1024.Idx)
      = (Rect.unit (s := S1x1024x1024) off S1x64x512.size h).emb (Fin.cons ⟨0, Nat.one_pos⟩ j) := by
    show (Rect.unit (s := S1x1024x1024) off S1x64x512.size h).emb (Shape.reshapeEquiv _ j) = _
    exact congrArg _ (Shape.reshapeEquiv_cons_one (n := 2) (d := ![64, 512]) _ j)
  rw [e]
  refine ⟨?_, ?_, ?_⟩
  · show off 0 + 1 * 0 = off 0; omega
  · show off 1 + 1 * (j 0).val = _; omega
  · show off 2 + 1 * (j 1).val = _; omega

theorem yB_row (k : Fin 8) (j : S64x512.Idx) : (((yB k).view.emb j : S512x512.Idx) 0).val = 64 * k.val + (j 0).val
    ∧ (((yB k).view.emb j : S512x512.Idx) 1).val = (j 1).val := by
  constructor
  · show 64 * k.val + 1 * (j 0).val = _; omega
  · show 0 + 1 * (j 1).val = _; omega
theorem outB_row (c : Dev nD) (k : Fin 8) (j : S64x512.Idx) :
    (((outB c k).view.emb j : S1024x512.Idx) 0).val = 512 * (c.val / 2) + 64 * k.val + (j 0).val
    ∧ (((outB c k).view.emb j : S1024x512.Idx) 1).val = (j 1).val := by
  constructor
  · show 512 * (c.val / 2) + 64 * k.val + 1 * (j 0).val = _; omega
  · show 0 + 1 * (j 1).val = _; omega

/-- Two positions of the operand with the same row and column are the same (there is one plane). -/
theorem ext3 {i j : S1x1024x1024.Idx} (h1 : (i 1).val = (j 1).val) (h2 : (i 2).val = (j 2).val) : i = j := by
  funext a
  match a with
  | ⟨0, _⟩ => exact Fin.ext (by have : (i 0).val < 1 := (i 0).isLt; have : (j 0).val < 1 := (j 0).isLt; show (i 0).val = (j 0).val; omega)
  | ⟨1, _⟩ => exact Fin.ext h1
  | ⟨2, _⟩ => exact Fin.ext h2

theorem ext2 {a b : ℕ} {i j : (⟨2, ![a, b]⟩ : Shape).Idx} (h0 : (i 0).val = (j 0).val) (h1 : (i 1).val = (j 1).val) : i = j := by
  funext x
  match x with
  | ⟨0, _⟩ => exact Fin.ext h0
  | ⟨1, _⟩ => exact Fin.ext h1

/-- The kept chunk read at a position is the kept quarter at that position of the chunk's rows; -/
theorem keep_at (c : Dev nD) (k : Fin 8) (j : S64x512.Idx) : X m c ((keepB c k).view.emb j) = keptX m c ((kB k).view.emb j) := by
  obtain ⟨-, e1, e2⟩ := xBlk_row (keepOff c k) (keepOff_inb c k) j
  obtain ⟨r0, r1⟩ := yB_row k j
  refine congrArg (X m c) (ext3 (e1.trans ?_) (e2.trans ?_))
  · show 512 * (c.val / 2) + 64 * k.val + (j 0).val = 512 * (c.val / 2) + (((yB k).view.emb j : S512x512.Idx) 0).val
    rw [r0]; omega
  · show 512 * (c.val % 2) + (j 1).val = 512 * (c.val % 2) + (((yB k).view.emb j : S512x512.Idx) 1).val
    rw [r1]
/-- and the sent chunk the sent quarter. -/
theorem send_at (c : Dev nD) (k : Fin 8) (j : S64x512.Idx) : X m c ((sendB c k).view.emb j) = sentX m c ((yB k).view.emb j) := by
  obtain ⟨-, e1, e2⟩ := xBlk_row (sendOff c k) (sendOff_inb c k) j
  obtain ⟨r0, r1⟩ := yB_row k j
  refine congrArg (X m c) (ext3 (e1.trans ?_) (e2.trans ?_))
  · show 512 * (c.val / 2) + 64 * k.val + (j 0).val = 512 * (c.val / 2) + (((yB k).view.emb j : S512x512.Idx) 0).val
    rw [r0]; omega
  · show 512 - 512 * (c.val % 2) + (j 1).val = 512 - 512 * (c.val % 2) + (((yB k).view.emb j : S512x512.Idx) 1).val
    rw [r1]
/-- The staged block is the first chunk of the sent quarter. -/
theorem staged_at (c : Dev nD) (j : S64x512.Idx) : stagedX m c j = sentX m c ((yB 0).view.emb j) := by
  obtain ⟨r0, r1⟩ := yB_row 0 j
  refine congrArg (sentX m c) (ext2 (a := 512) (b := 512) ?_ ?_)
  · show (j 0).val = (((yB 0).view.emb j : S512x512.Idx) 0).val
    rw [r0]; show _ = 64 * 0 + _; omega
  · exact r1.symm
/-- The result at a position of the rows device `c` computes is `c`'s quarter at that position. -/
theorem out_at (c : Dev nD) (k : Fin 8) (j : S64x512.Idx) :
    outX m c ((outB c k).view.emb j) = quarter m c ((yB k).view.emb j) := by
  obtain ⟨o0, o1⟩ := outB_row c k j
  obtain ⟨r0, r1⟩ := yB_row k j
  have hj : (j 0).val < 64 := (j 0).isLt
  have hk := k.isLt
  have ho : owner c (((outB c k).view.emb j : S1024x512.Idx) 0) = c := Fin.ext (by
    show 2 * ((((outB c k).view.emb j : S1024x512.Idx) 0).val / 512) + c.val % 2 = c.val
    rw [o0]; omega)
  unfold outX
  show quarter m (owner c (((outB c k).view.emb j : S1024x512.Idx) 0)) _ = _
  rw [ho]
  refine congrArg (quarter m c) (ext2 (a := 512) (b := 512) ?_ ?_)
  · show (((outB c k).view.emb j : S1024x512.Idx) 0).val % 512 = (((yB k).view.emb j : S512x512.Idx) 0).val
    rw [o0, r0]; omega
  · exact o1.trans r1.symm

/-! ## What a transfer leaves -/

/-- A block overwritten with contents `w` holds the function `h` when `h` is `w` on the block. -/
theorem written {sp : Space} (v : Memref sig .tc sp S64x512 .f32) (c : Dev nD) (fd h : Buf (Elt F) (v.view.loc (c : Thread nD τ)))
    (w : S64x512.Idx → Elt F .f32) (he : ∀ j, h (v.view.emb j) = cast (congrArg (Elt F) v.view.elt_eq.symm) (w j)) :
    (v.view.loc (c : Thread nD τ) ↦[v.view.set]{fullShare} v.view.write (Elt F) fd w Finset.univ : sProp 𝕄)
      = (v.view.loc (c : Thread nD τ) ↦[v.view.set]{fullShare} h) :=
  pointsTo_congr fun i hi => by
    obtain ⟨j, rfl⟩ := View.exists_emb_of_mem_set _ hi
    exact (View.write_emb_of_mem fd w (Finset.mem_univ j)).trans (he j).symm

theorem local_lands (c : Dev nD) (k : Fin 8) (fd : Buf (Elt F) ((c : Thread nD τ).loc cc0_scratch1)) :
    kPts c k ((kB k).view.write (Elt F) fd ((keepB c k).view.read (Elt F) (X m c)) Finset.univ) = (kPts c k (keptX m c) : sProp 𝕄) :=
  written (kB k) c fd (keptX m c) _ fun j => (keep_at m c k j).symm
theorem stage_lands (c : Dev nD) (fd : Buf (Elt F) ((c : Thread nD τ).loc cc0_scratch2)) :
    sPts c ((sM : Memref sig .tc .vmem S64x512 .f32).view.write (Elt F) fd ((sendB c 0).view.read (Elt F) (X m c)) Finset.univ) = (sPts c (stagedX m c) : sProp 𝕄) :=
  written sM c fd (stagedX m c) _ fun j => (staged_at m c j).trans (send_at m c 0 j).symm
theorem first_lands (c d : Dev nD) (fd : Buf (Elt F) ((d : Thread nD τ).loc cc0_scratch0)) :
    yPts d 0 ((yB 0).view.write (Elt F) fd ((sM : Memref sig .tc .vmem S64x512 .f32).view.read (Elt F) (stagedX m c)) Finset.univ) = (yPts d 0 (sentX m c) : sProp 𝕄) :=
  written (yB 0) d fd (sentX m c) _ fun j => (staged_at m c j).symm
theorem y_lands (c d : Dev nD) (k : Fin 8) (fd : Buf (Elt F) ((d : Thread nD τ).loc cc0_scratch0)) :
    yPts d k ((yB k).view.write (Elt F) fd ((sendB c k).view.read (Elt F) (X m c)) Finset.univ) = (yPts d k (sentX m c) : sProp 𝕄) :=
  written (yB k) d fd (sentX m c) _ fun j => (send_at m c k j).symm
theorem x_lands (c d : Dev nD) (k : Fin 8) (fd : Buf (Elt F) ((d : Thread nD τ).loc cc0_stg0_0)) :
    outPts d c k ((outB c k).view.write (Elt F) fd ((outB c k).view.read (Elt F) (outX m c)) Finset.univ) = (outPts d c k (outX m c) : sProp 𝕄) :=
  written (outB c k) d fd (outX m c) _ fun j => rfl

/-- The sum of the kept chunk and the received chunk, stored in the chunk's rows of the result, is the result there. -/
theorem sum_lands (c : Dev nD) (k : Fin 8) (fd : Buf (Elt F) ((c : Thread nD τ).loc cc0_stg0_0)) :
    outPts c c k ((outB c k).view.write (Elt F) fd
      (addf (F := F) (s := S64x512) (φ := .f32) ((kM : Memref sig .tc .vmem S512x512 .f32).view.readAt (Elt F) (rowR k).toLoadRect (keptX m c))
        ((yM : Memref sig .tc .vmem S512x512 .f32).view.readAt (Elt F) (rowR k).toLoadRect (sentX m (yp c)))) Finset.univ)
      = (outPts c c k (outX m c) : sProp 𝕄) :=
  written (outB c k) c fd (outX m c) _ fun j => out_at m c k j

/-! ## Dividing the buffers -/

/-- A buffer held whole is the blocks of a separate family and the rest of it. -/
theorem divide {ℓ : Loc nD τ sig} {T : Type} [Fintype T] (K : T → Finset (Idx ℓ)) (h : ∀ t t', t ≠ t' → Disjoint (K t) (K t')) (f : Buf (Elt F) ℓ) :
    (ℓ ↦{fullShare} f : sProp 𝕄)
      ⊣⊢ iprop((bigSep Finset.univ fun t => ℓ ↦[K t]{fullShare} f) ∗ ℓ ↦[Finset.univ \ Finset.univ.biUnion K]{fullShare} f) := by
  rw [← pointsTo_biUnion Finset.univ K (fun t _ t' _ => h t t')]
  exact pointsTo_split_subset (Finset.subset_univ _)

/-- A buffer held whole is the blocks of a separate family that covers it. -/
theorem divide_all {ℓ : Loc nD τ sig} {T : Type} [Fintype T] (K : T → Finset (Idx ℓ)) (h : ∀ t t', t ≠ t' → Disjoint (K t) (K t'))
    (hc : ∀ i, ∃ t, i ∈ K t) (f : Buf (Elt F) ℓ) :
    (ℓ ↦{fullShare} f : sProp 𝕄) = bigSep Finset.univ fun t => ℓ ↦[K t]{fullShare} f := by
  rw [← pointsTo_biUnion Finset.univ K (fun t _ t' _ => h t t')]
  rw [show Finset.univ.biUnion K = Finset.univ from Finset.eq_univ_of_forall fun i => by
    obtain ⟨t, ht⟩ := hc i; exact Finset.mem_biUnion.mpr ⟨t, Finset.mem_univ _, ht⟩]

theorem rowR_disjoint (k l : Fin 8) (h : k ≠ l) : Disjoint (rowR k).set (rowR l).set :=
  Rect.unit_disjoint 0 (by
    have : k.val ≠ l.val := fun e => h (Fin.ext e)
    show 64 * k.val + 64 ≤ 64 * l.val ∨ 64 * l.val + 64 ≤ 64 * k.val
    omega)
theorem rowR_cover (i : S512x512.Idx) : ∃ k : Fin 8, i ∈ (rowR k).set := by
  have h0 : (i 0).val < 512 := (i 0).isLt
  have h1 : (i 1).val < 512 := (i 1).isLt
  refine ⟨⟨(i 0).val / 64, by omega⟩, Rect.mem_set_unit.mpr fun a => ?_⟩
  match a with
  | ⟨0, _⟩ => exact ⟨by show 64 * ((i 0).val / 64) ≤ (i 0).val; omega, by show (i 0).val < 64 * ((i 0).val / 64) + 64; omega⟩
  | ⟨1, _⟩ => exact ⟨Nat.zero_le _, by show (i 1).val < 0 + 512; omega⟩

/-- Either receive buffer is its eight chunks. -/
theorem y_split (c : Dev nD) (f : Buf (Elt F) ((c : Thread nD τ).loc cc0_scratch0)) :
    (((c : Thread nD τ).loc cc0_scratch0) ↦{fullShare} f : sProp 𝕄) = bigSep Finset.univ fun k : Fin 8 => yPts c k f := by
  unfold yPts
  exact divide_all (ℓ := (c : Thread nD τ).loc cc0_scratch0) (fun k => (yB k).view.set)
    (fun k l h => by
      show Disjoint ((View.whole cc0_scratch0).slice (rowR k)).set ((View.whole cc0_scratch0).slice (rowR l)).set
      rw [View.set_slice_whole, View.set_slice_whole]; exact rowR_disjoint k l h)
    (fun i => by
      obtain ⟨k, hk⟩ := rowR_cover i
      refine ⟨k, ?_⟩
      show i ∈ ((View.whole cc0_scratch0).slice (rowR k)).set
      rw [View.set_slice_whole]; exact hk) f
theorem k_split (c : Dev nD) (f : Buf (Elt F) ((c : Thread nD τ).loc cc0_scratch1)) :
    (((c : Thread nD τ).loc cc0_scratch1) ↦{fullShare} f : sProp 𝕄) = bigSep Finset.univ fun k : Fin 8 => kPts c k f := by
  unfold kPts
  exact divide_all (ℓ := (c : Thread nD τ).loc cc0_scratch1) (fun k => (kB k).view.set)
    (fun k l h => by
      show Disjoint ((View.whole cc0_scratch1).slice (rowR k)).set ((View.whole cc0_scratch1).slice (rowR l)).set
      rw [View.set_slice_whole, View.set_slice_whole]; exact rowR_disjoint k l h)
    (fun i => by
      obtain ⟨k, hk⟩ := rowR_cover i
      refine ⟨k, ?_⟩
      show i ∈ ((View.whole cc0_scratch1).slice (rowR k)).set
      rw [View.set_slice_whole]; exact hk) f
theorem s_whole (c : Dev nD) (f : Buf (Elt F) ((c : Thread nD τ).loc cc0_scratch2)) :
    (((c : Thread nD τ).loc cc0_scratch2) ↦{fullShare} f : sProp 𝕄) = sPts c f := by
  unfold sPts; rw [show (sM : Memref sig .tc .vmem S64x512 .f32).view.set = Finset.univ from View.set_whole _]

/-- The device of a column of the mesh by which half of the rows it computes: `c` or its column peer. -/
abbrev half (c : Dev nD) (b : Bool) : Dev nD := if b then c else xp c

abbrev outR (c : Dev nD) (k : Fin 8) : Rect S1024x512 := Rect.unit (s := S1024x512) (outOff c k) S64x512.size (outOff_inb c k)
theorem outB_set (c : Dev nD) (k : Fin 8) : (outB c k).view.set = (outR c k).set := View.set_slice_whole _ _

theorem outR_disjoint (c : Dev nD) (s t : Bool × Fin 8) (h : s ≠ t) : Disjoint (outR (half c s.1) s.2).set (outR (half c t.1) t.2).set :=
  Rect.unit_disjoint 0 (by
    show outOff (half c s.1) s.2 0 + 64 ≤ outOff (half c t.1) t.2 0 ∨ outOff (half c t.1) t.2 0 + 64 ≤ outOff (half c s.1) s.2 0
    revert h; revert c s t; decide +kernel)
theorem outR_cover (c : Dev nD) (i : S1024x512.Idx) : ∃ t : Bool × Fin 8, i ∈ (outR (half c t.1) t.2).set := by
  have h0 : (i 0).val < 1024 := (i 0).isLt
  have h1 : (i 1).val < 512 := (i 1).isLt
  have hc : c.val < 4 := c.isLt
  have hx := xp_div c
  have key : ∃ b : Bool, (half c b).val / 2 = (i 0).val / 512 := by
    by_cases h : c.val / 2 = (i 0).val / 512
    · exact ⟨true, h⟩
    · exact ⟨false, by show (xp c).val / 2 = _; omega⟩
  obtain ⟨b, hb⟩ := key
  refine ⟨(b, ⟨(i 0).val % 512 / 64, by omega⟩), Rect.mem_set_unit.mpr fun a => ?_⟩
  match a with
  | ⟨0, _⟩ =>
    exact ⟨by show 512 * ((half c b).val / 2) + 64 * ((i 0).val % 512 / 64) ≤ (i 0).val; omega,
      by show (i 0).val < 512 * ((half c b).val / 2) + 64 * ((i 0).val % 512 / 64) + 64; omega⟩
  | ⟨1, _⟩ => exact ⟨Nat.zero_le _, by show (i 1).val < 0 + 512; omega⟩

theorem bigSep_bool (Φ : Bool → sProp 𝕄) : bigSep Finset.univ Φ = iprop(Φ true ∗ Φ false) := by
  rw [bigSep_univ_eq_bigSepL [true, false] (by decide) (by decide), bigSepL_cons_cons, bigSepL_singleton]
  rfl

/-- The window of the result is the eight chunks its device computes and the eight its column peer does. -/
theorem out_split (c : Dev nD) (f : Buf (Elt F) ((c : Thread nD τ).loc cc0_stg0_0)) :
    (((c : Thread nD τ).loc cc0_stg0_0) ↦{fullShare} f : sProp 𝕄)
      = iprop((bigSep Finset.univ fun k : Fin 8 => outPts c c k f) ∗ bigSep Finset.univ fun k : Fin 8 => outPts c (xp c) k f) := by
  rw [divide_all (ℓ := (c : Thread nD τ).loc cc0_stg0_0) (fun t : Bool × Fin 8 => (outB (half c t.1) t.2).view.set)
    (fun s t h => by rw [outB_set, outB_set]; exact outR_disjoint c s t h)
    (fun i => by obtain ⟨t, ht⟩ := outR_cover c i; exact ⟨t, by rw [outB_set]; exact ht⟩) f,
    BI.bigSep_univ_prod, bigSep_bool]
  rfl

abbrev keepR (c : Dev nD) (k : Fin 8) : Rect S1x1024x1024 := Rect.unit (s := S1x1024x1024) (keepOff c k) S1x64x512.size (keepOff_inb c k)
abbrev sendR (c : Dev nD) (k : Fin 8) : Rect S1x1024x1024 := Rect.unit (s := S1x1024x1024) (sendOff c k) S1x64x512.size (sendOff_inb c k)
theorem keepB_set (c : Dev nD) (k : Fin 8) : (keepB c k).view.set = (keepR c k).set :=
  (View.set_reshape _ _).trans (View.set_slice_whole _ _)
theorem sendB_set (c : Dev nD) (k : Fin 8) : (sendB c k).view.set = (sendR c k).set :=
  (View.set_reshape _ _).trans (View.set_slice_whole _ _)

/-- The sixteen blocks of the operand the transfers read, kept chunks and sent chunks. -/
abbrev xSet (c : Dev nD) (t : Bool × Fin 8) : Finset S1x1024x1024.Idx := if t.1 then (keepR c t.2).set else (sendR c t.2).set

theorem xSet_disjoint (c : Dev nD) (s t : Bool × Fin 8) (h : s ≠ t) : Disjoint (xSet c s) (xSet c t) := by
  obtain ⟨b, k⟩ := s
  obtain ⟨b', l⟩ := t
  have hc : c.val % 2 < 2 := Nat.mod_lt _ (by decide)
  have rows (hkl : k ≠ l) : 512 * (c.val / 2) + 64 * k.val + 64 ≤ 512 * (c.val / 2) + 64 * l.val
      ∨ 512 * (c.val / 2) + 64 * l.val + 64 ≤ 512 * (c.val / 2) + 64 * k.val := by
    have : k.val ≠ l.val := fun e => hkl (Fin.ext e)
    omega
  cases b <;> cases b'
  · exact Rect.unit_disjoint 1 (rows fun e => h (by rw [e]))
  · exact Rect.unit_disjoint 2 (by
      show 512 - 512 * (c.val % 2) + 512 ≤ 512 * (c.val % 2) ∨ 512 * (c.val % 2) + 512 ≤ 512 - 512 * (c.val % 2); omega)
  · exact Rect.unit_disjoint 2 (by
      show 512 * (c.val % 2) + 512 ≤ 512 - 512 * (c.val % 2) ∨ 512 - 512 * (c.val % 2) + 512 ≤ 512 * (c.val % 2); omega)
  · exact Rect.unit_disjoint 1 (rows fun e => h (by rw [e]))

/-- The rest of the operand: the half of the rows the device does not read. -/
def xRest (c : Dev nD) : sProp 𝕄 :=
  ((c : Thread nD τ).loc main_arg0) ↦[Finset.univ \ Finset.univ.biUnion (xSet c)]{fullShare} X m c

theorem keepPts_eq (c : Dev nD) (k : Fin 8) :
    keepPts m c k = (((c : Thread nD τ).loc main_arg0) ↦[xSet c (true, k)]{fullShare} X m c : sProp 𝕄) := by
  unfold keepPts; rw [keepB_set]; rfl
theorem sendPts_eq (c : Dev nD) (k : Fin 8) :
    sendPts m c k = (((c : Thread nD τ).loc main_arg0) ↦[xSet c (false, k)]{fullShare} X m c : sProp 𝕄) := by
  unfold sendPts; rw [sendB_set]; rfl

/-- The operand is its kept chunks, its sent chunks and the rest. -/
theorem x_split (c : Dev nD) :
    (((c : Thread nD τ).loc main_arg0) ↦{fullShare} X m c : sProp 𝕄)
      ⊣⊢ iprop(((bigSep Finset.univ fun k : Fin 8 => keepPts m c k) ∗ bigSep Finset.univ fun k : Fin 8 => sendPts m c k) ∗ xRest m c) := by
  have h := divide (F := F) (ℓ := (c : Thread nD τ).loc main_arg0) (xSet c) (xSet_disjoint c) (X m c)
  rw [BI.bigSep_univ_prod, bigSep_bool] at h
  simp only [keepPts_eq, sendPts_eq]
  unfold xRest
  exact h

end Cert.KernelIdeal.Own
-- ==== Proof.OnKernelIdeal.Steps.lean ====
/-
# 01_k — the steps of the exchange

One lemma for each kind of operation the kernel performs on a chunk, stated for any chunk, and a lemma that carries such
a step through a phase: a phase does the same step to chunks 0 to 7 in order.
-/
module

public import proofs.«01_k».proof.Proof.OnKernelIdeal.Blocks
public import Idealize.ShloMosaic.Lib.Exec.Context

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Shared records, and what a device holds of a semaphore -/

variable (K : Dev nD × CI → ℕ)

/-- Every semaphore's invariant, under the names `K`, and that its round has been reached. -/
def records : sProp 𝕄 :=
  iprop((bigSep Finset.univ fun ck => cellInv ER (sched m) (K ck) (kcell ck)) ∗ bigSep Finset.univ fun ck => reached ER (kcell ck) 0)

instance records_persistent : BI.Persistent (records (F := F) m K) := by unfold records; infer_instance

theorem records_inv (c : Dev nD) (i : CI) : records m K ⊢ (cellInv ER (sched m) (K (c, i)) (kcell (c, i)) : sProp 𝕄) := by
  unfold records
  exact Laws.sep_and.trans (and_elimL.trans (bigSep_elim (Finset.mem_univ (c, i))))
theorem records_reached (c : Dev nD) (i : CI) : records m K ⊢ (reached ER (kcell (c, i)) 0 : sProp 𝕄) := by
  unfold records
  exact Laws.sep_and.trans (and_elimR.trans (bigSep_elim (Finset.mem_univ (c, i))))

/-- Of a semaphore no transfer of `c`'s has been started on: its position, and the right to raise it. -/
def idle (c : Dev nD) (o : OI) : sProp 𝕄 := iprop(atPos ER (ocell c o) 0 ∅ 0 ∗ dutyTok ER (ocell c o) 0 false)
/-- Of a semaphore whose transfer is under way: its position, and the credit to wait for it. -/
def busy (c : Dev nD) (o : OI) : sProp 𝕄 := iprop(atPos ER (ocell c o) 0 ∅ 0 ∗ cred (tallyAt (ocell c o) () N))
/-- The right to raise a semaphore of device `c`. -/
def ticket (c : Dev nD) (o : OI) : sProp 𝕄 := dutyTok ER (ocell c o) 0 false
/-- What the device owes, whatever it has waited for. -/
def ow (c : Dev nD) (O : CellTallies nD τ sig Unit) : sProp 𝕄 := iprop(∃ W, owes (c : Thread nD τ) O W)

abbrev ch (p : Fin 5) (k : Fin 8) : OI := .inr (p, k)
abbrev st : OI := .inl ()

/-! ## Waiting -/

/-- Waiting for a transfer semaphore of the exchange: its payload, and its counter back at zero for good. -/
theorem wait_step (c : Dev nD) (o : OI) (i : DmaSem sig) (hi : osem o = .dma i) (O : CellTallies nD τ sig Unit)
    (hm : (levAts L lv : sProp 𝕄) ⊢ MayWait (c : Thread nD τ) (.dma i) () O)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop((records m K ∗ levAts L lv) ∗ busy c o ∗ ow c O)
      ⊢ iprop(((dmaPay m c i.val ∗ semVal (ocell c o) 0 ∗ ow c O) -∗ run c (k ⟨⟩) Q)
          -∗ run c (.op (.waitDma2 i src dst hsrc hdst) k) Q) := by
  unfold busy ow
  have hcell : ocell c o = ((c : Thread nD τ), SemLoc.dma i) := by show ((c : Thread nD τ), osem o) = _; rw [hi]
  rw [hcell]
  iintro ⟨⟨#HR, #Hlev⟩, ⟨Hat, Hc⟩, ⟨%W, HO⟩⟩ Hk
  ihave #HI := (records_inv m K c (.inr o)) $$ HR
  rw [show kcell (c, (.inr o : CI)) = ((c : Thread nD τ), SemLoc.dma i) from hcell]
  iapply (Rounds.wp_wait_rest_token 𝒱₀ ER (sched m) (c : Thread nD τ) none (κ := K (c, .inr o))
      (wpE_waitDma2_eq 𝒱₀ (c : Thread nD τ) none Set.univ) (Set.mem_univ _) () (O := O) (W := W) (R := 0) (m := 0) (T := ∅)
      (by rw [Nat.zero_add, expect_dma]; exact hN)) $$ [Hc HO Hat]
  · isplitr; · iexact HI
    isplitl [Hc]; · rw [hN]; iexact Hc
    isplitl [HO]; · iexact HO
    isplitr; · iapply hm; iexact Hlev
    iexact Hat
  iintro ⟨HO, Hat, -, Hpay⟩
  ihave Hpay := (Entails.of_eq (rest_dma m c i)) $$ Hpay
  imod (Rounds.cell_close ER (sched m) (Set.mem_univ (K (c, .inr o))) (fun h => h) (R := 0 + 1) (duties_later m ((c : Thread nD τ), SemLoc.dma i))) $$ [Hat] with Hz
  · isplitr; · iexact HI
    iexact Hat
  iapply Hk
  isplitl [Hpay]; · iexact Hpay
  isplitl [Hz]; · iexact Hz
  iexists _; iexact HO

/-- The same for chunk `j` of kind `p`. -/
theorem wait_chunk (c : Dev nD) (p : Fin 5) (j : Fin 8) (i : DmaSem sig) (hi : i = chunkS p j) (O : CellTallies nD τ sig Unit)
    (hm : (levAts L lv : sProp 𝕄) ⊢ MayWait (c : Thread nD τ) (.dma (chunkS p j)) () O)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop((records m K ∗ levAts L lv) ∗ busy c (ch p j) ∗ ow c O)
      ⊢ iprop(((chunkPay m c p.val j ∗ semVal (chunkCell c p j) 0 ∗ ow c O) -∗ run c (k ⟨⟩) Q)
          -∗ run c (.op (.waitDma2 i src dst hsrc hdst) k) Q) := by
  subst hi
  rw [← dmaPay_chunk]
  exact wait_step m K c (ch p j) (chunkS p j) rfl O hm hN

/-! ## Starting a transfer -/

/-- The block of 64 rows at the offset `row` of either receive buffer. -/
abbrev yRow (row : Fin 2 → ℕ) (h : ∀ a, row a + S64x512.size a ≤ S512x512.size a) : Memref sig .tc .vmem S64x512 .f32 :=
  yM.slice (Rect.unit (s := S512x512) row S64x512.size h) (fun _ => rfl)
abbrev kRow (row : Fin 2 → ℕ) (h : ∀ a, row a + S64x512.size a ≤ S512x512.size a) : Memref sig .tc .vmem S64x512 .f32 :=
  kM.slice (Rect.unit (s := S512x512) row S64x512.size h) (fun _ => rfl)

theorem yRow_credit (row h) : (yRow row h).view.dmaCredit = N := View.dmaCredit_closed _ S64x512 rfl 1 rfl N rfl
theorem kRow_credit (row h) : (kRow row h).view.dmaCredit = N := View.dmaCredit_closed _ S64x512 rfl 2 rfl N rfl
theorem outBlk_credit (off h) : (outBlk off h).view.dmaCredit = N := View.dmaCredit_closed _ S64x512 rfl 0 rfl N rfl

/-- The local copy of kept chunk `k`. -/
theorem local_step (c : Dev nD) (k : Fin 8) {off : Fin 3 → ℕ} {hoff} (ho : off = keepOff c k) {row : Fin 2 → ℕ} {hrow}
    (hr : row = ![64 * k.val, 0]) {i : DmaSem sig} (hi : i = chunkS 0 k)
    {hsrc : (xBlk off hoff).view.WordExact}
    {hdst : (kRow row hrow).view.WordExact}
    {hsem : DmaTarget.Typed (nD := nD) (τ := τ) (p := .tc) .hbm (.dma i) (.here (kRow row hrow))}
    {α : Type} {Q : α → sProp 𝕄} {next : PUnit → Prog (TpuEff nD τ sig (Elt F) Λ₀ .tc) α} :
    iprop(records m K ∗ keepPts m c k ∗ (∃ f, kPts c k f) ∗ idle c (ch 0 k))
      ⊢ iprop((busy c (ch 0 k) -∗ run c (next ⟨⟩) Q)
          -∗ run c (.op (.enqueueDma (xBlk off hoff) (.here (kRow row hrow)) (.dma i) hsrc hdst hsem) next) Q) := by
  subst ho hr hi
  unfold idle busy
  iintro ⟨#HR, Hx, ⟨%f, Hd⟩, ⟨Hat, Ht⟩⟩ Hk
  ihave #HI := (records_inv m K c (.inr (ch 0 k))) $$ HR
  ihave #Hr := (records_reached m K c (.inr (ch 0 k))) $$ HR
  unfold keepPts kPts
  iapply (Rounds.wp_copy_pointsTo 𝒱₀ ER (sched m) (c : Thread nD τ) none (κ := K (c, .inr (ch 0 k))) (r := 0) (d := false)
      (by rw [duties_dma]; exact Finset.mem_singleton_self _) () N (by exact kRow_credit _ _) (amount_dma m c _)
      (by
        rw [payload_chunk]
        show _ ⊢ localPay m c k
        unfold localPay
        exact sep_mono_left (Entails.of_eq (local_lands m c k f)))) $$ [Hx Hd Ht]
  · isplitr; · iexact HI
    isplitl [Hx]; · iexact Hx
    isplitl [Hd]; · iexact Hd
    isplitl [Ht]; · iexact Ht
    iexact Hr
  iintro Hc
  iapply Hk
  isplitl [Hat] <;> iassumption

/-- The copy of the first sent chunk to the staging block. -/
theorem stage_step (c : Dev nD) {off : Fin 3 → ℕ} {hoff} (ho : off = sendOff c 0) {i : DmaSem sig} (hi : i = stageS)
    {hsrc : (xBlk off hoff).view.WordExact} {hdst : (sM : Memref sig .tc .vmem S64x512 .f32).view.WordExact}
    {hsem : DmaTarget.Typed (nD := nD) (τ := τ) (p := .tc) .hbm (.dma i) (.here (sM : Memref sig .tc .vmem S64x512 .f32))}
    {α : Type} {Q : α → sProp 𝕄} {next : PUnit → Prog (TpuEff nD τ sig (Elt F) Λ₀ .tc) α} :
    iprop(records m K ∗ sendPts m c 0 ∗ (∃ f, sPts c f) ∗ idle c st)
      ⊢ iprop((busy c st -∗ run c (next ⟨⟩) Q)
          -∗ run c (.op (.enqueueDma (xBlk off hoff) (.here (sM : Memref sig .tc .vmem S64x512 .f32)) (.dma i) hsrc hdst hsem) next) Q) := by
  subst ho hi
  unfold idle busy
  iintro ⟨#HR, Hx, ⟨%f, Hd⟩, ⟨Hat, Ht⟩⟩ Hk
  ihave #HI := (records_inv m K c (.inr st)) $$ HR
  ihave #Hr := (records_reached m K c (.inr st)) $$ HR
  unfold sendPts sPts
  iapply (Rounds.wp_copy_pointsTo 𝒱₀ ER (sched m) (c : Thread nD τ) none (κ := K (c, .inr st)) (r := 0) (d := false)
      (by rw [duties_dma]; exact Finset.mem_singleton_self _) () N rfl (amount_dma m c _)
      (by
        rw [payload_stage]
        unfold stagePay
        exact sep_mono_left (Entails.of_eq (stage_lands m c f)))) $$ [Hx Hd Ht]
  · isplitr; · iexact HI
    isplitl [Hx]; · iexact Hx
    isplitl [Hd]; · iexact Hd
    isplitl [Ht]; · iexact Ht
    iexact Hr
  iintro Hc
  iapply Hk
  isplitl [Hat] <;> iassumption

/-- What a send over the row of chunk `k` takes: its source, the peer's chunk, both semaphores' rights. -/
def ysendPre (c : Dev nD) (k : Fin 8) : sProp 𝕄 :=
  iprop(ysendPay m c k ∗ (∃ f, yPts (yp c) k f) ∗ idle c (ch 1 k) ∗ ticket (yp c) (ch 2 k))

/-- A send over the row from any source that holds the chunk: what it takes is what its completion gives back, and what
    it leaves is the sent chunk in the peer's receive buffer. -/
theorem ysend_step (c n : Dev nD) (hn : n = yp c) (k : Fin 8) {sp : Space} (src : Memref sig .tc sp S64x512 .f32)
    (fs : Buf (Elt F) (src.view.loc (c : Thread nD τ)))
    (hback : (ysendPay m c k : sProp 𝕄) = (src.view.loc (c : Thread nD τ) ↦[src.view.set]{fullShare} fs))
    (hland : ∀ fd, yPts (yp c) k ((yB k).view.write (Elt F) fd (src.view.read (Elt F) fs) Finset.univ) = (yPts (yp c) k (sentX m c) : sProp 𝕄))
    {row : Fin 2 → ℕ} {hrow} (hr : row = ![64 * k.val, 0]) {i j : DmaSem sig} (hi : i = chunkS 1 k) (hj : j = chunkS 2 k)
    {hsc : (yRow row hrow : Memref sig (Dev.tc n : Thread nD τ).2.kind .vmem S64x512 .f32).view.ref.isScScratch = false}
    {hsrc : src.view.WordExact}
    {hdst : (yRow row hrow : Memref sig (Dev.tc n : Thread nD τ).2.kind .vmem S64x512 .f32).view.WordExact}
    {hsem : DmaTarget.Typed sp (.dma j) (.remote (Dev.tc n : Thread nD τ)
      (yRow row hrow : Memref sig (Dev.tc n : Thread nD τ).2.kind .vmem S64x512 .f32) (.dma i) hsc)}
    {α : Type} {Q : α → sProp 𝕄} {next : PUnit → Prog (TpuEff nD τ sig (Elt F) Λ₀ .tc) α} :
    iprop(records m K ∗ ysendPre m c k ∗ ow c (owed c k.val 0))
      ⊢ iprop(((busy c (ch 1 k) ∗ ow c (owed c (k.val + 1) 0)) -∗ run c (next ⟨⟩) Q)
          -∗ run c (.op (.enqueueDma src (.remote (Dev.tc n : Thread nD τ)
              (yRow row hrow) (.dma i) hsc) (.dma j) hsrc hdst hsem) next) Q) := by
  subst hn hr hi hj
  unfold ysendPre idle busy ow ticket
  rw [hback]
  iintro ⟨#HR, ⟨Hx, ⟨%f, Hd⟩, ⟨Hat, Ht⟩, Ht'⟩, ⟨%W, HO⟩⟩ Hk
  ihave #HI := (records_inv m K c (.inr (ch 1 k))) $$ HR
  ihave #HI' := (records_inv m K (yp c) (.inr (ch 2 k))) $$ HR
  ihave #Hr := (records_reached m K c (.inr (ch 1 k))) $$ HR
  ihave #Hr' := (records_reached m K (yp c) (.inr (ch 2 k))) $$ HR
  unfold yPts at hland ⊢
  iapply (Rounds.wp_send_pointsTo 𝒱₀ ER (sched m) (c : Thread nD τ) none (κ₁ := K (c, .inr (ch 1 k))) (κ₂ := K (yp c, .inr (ch 2 k)))
      (r₁ := 0) (r₂ := 0) (d₁ := false) (d₂ := false) (fd := f) (fs := fs)
      (by rw [duties_dma]; exact Finset.mem_singleton_self _) (by rw [duties_dma]; exact Finset.mem_singleton_self _)
      () () N (by exact yRow_credit _ _) (amount_dma m c _) (amount_dma m (yp c) _) (owed c (k.val + 1) 0) (owed_peelY c k 0) (W := W)
      (by rw [payload_chunk]; exact Entails.of_eq hback.symm)
      (by
        rw [payload_chunk]
        show _ ⊢ yrecvPay m (yp c) k
        unfold yrecvPay
        rw [yp_yp]
        exact Entails.of_eq (hland f))) $$ [Hx Hd HO Ht Ht']
  · isplitr; · iexact HI
    isplitr; · iexact HI'
    isplitl [Hx]; · iexact Hx
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hat Hc]
  · isplitl [Hat] <;> iassumption
  · iexists W; iexact HO

/-- What a send over the column of chunk `k` takes beside the rows it sends. -/
def xsendPre (c : Dev nD) (k : Fin 8) : sProp 𝕄 :=
  iprop((∃ f, outPts (xp c) c k f) ∗ idle c (ch 3 k) ∗ ticket (xp c) (ch 4 k))

/-- The send over the column of the rows of chunk `k`. -/
theorem xsend_step (c n : Dev nD) (hn : n = xp c) (k : Fin 8) {off : Fin 2 → ℕ} {hoff} (ho : off = outOff c k)
    {i j : DmaSem sig} (hi : i = chunkS 3 k) (hj : j = chunkS 4 k)
    {hsc : (outBlk off hoff : Memref sig (Dev.tc n : Thread nD τ).2.kind .vmem S64x512 .f32).view.ref.isScScratch = false}
    {hsrc : (outBlk off hoff).view.WordExact}
    {hdst : (outBlk off hoff : Memref sig (Dev.tc n : Thread nD τ).2.kind .vmem S64x512 .f32).view.WordExact}
    {hsem : DmaTarget.Typed .vmem (.dma j) (.remote (Dev.tc n : Thread nD τ)
      (outBlk off hoff : Memref sig (Dev.tc n : Thread nD τ).2.kind .vmem S64x512 .f32) (.dma i) hsc)}
    {α : Type} {Q : α → sProp 𝕄} {next : PUnit → Prog (TpuEff nD τ sig (Elt F) Λ₀ .tc) α} :
    iprop(records m K ∗ (outPts c c k (outX m c) ∗ xsendPre c k) ∗ ow c (owed c 8 k.val))
      ⊢ iprop(((busy c (ch 3 k) ∗ ow c (owed c 8 (k.val + 1))) -∗ run c (next ⟨⟩) Q)
          -∗ run c (.op (.enqueueDma (outBlk off hoff) (.remote (Dev.tc n : Thread nD τ) (outBlk off hoff) (.dma i) hsc) (.dma j) hsrc hdst hsem) next) Q) := by
  subst hn ho hi hj
  unfold xsendPre idle busy ow ticket
  iintro ⟨#HR, ⟨Hx, ⟨%f, Hd⟩, ⟨Hat, Ht⟩, Ht'⟩, ⟨%W, HO⟩⟩ Hk
  ihave #HI := (records_inv m K c (.inr (ch 3 k))) $$ HR
  ihave #HI' := (records_inv m K (xp c) (.inr (ch 4 k))) $$ HR
  ihave #Hr := (records_reached m K c (.inr (ch 3 k))) $$ HR
  ihave #Hr' := (records_reached m K (xp c) (.inr (ch 4 k))) $$ HR
  unfold outPts
  iapply (Rounds.wp_send_pointsTo 𝒱₀ ER (sched m) (c : Thread nD τ) none (κ₁ := K (c, .inr (ch 3 k))) (κ₂ := K (xp c, .inr (ch 4 k)))
      (r₁ := 0) (r₂ := 0) (d₁ := false) (d₂ := false) (fd := f) (fs := outX m c)
      (by rw [duties_dma]; exact Finset.mem_singleton_self _) (by rw [duties_dma]; exact Finset.mem_singleton_self _)
      () () N (by exact outBlk_credit _ _) (amount_dma m c _) (amount_dma m (xp c) _) (owed c 8 (k.val + 1)) (owed_peelX c 8 k) (W := W)
      (by rw [payload_chunk]; exact Entails.refl _)
      (by
        rw [payload_chunk]
        show _ ⊢ xrecvPay m (xp c) k
        unfold xrecvPay
        rw [xp_xp, outX_xp]
        exact Entails.of_eq (x_lands m c (xp c) k f))) $$ [Hx Hd HO Ht Ht']
  · isplitr; · iexact HI
    isplitr; · iexact HI'
    isplitl [Hx]; · iexact Hx
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hat Hc]
  · isplitl [Hat] <;> iassumption
  · iexists W; iexact HO

end Cert.KernelIdeal.Own
-- ==== Proof.OnKernelIdeal.Phases.lean ====
/-
# 01_k — the phases of the exchange

The kernel goes through the eight chunks several times: it starts the local copies, sends over the row, adds and sends
over the column, waits for the column's receipts, and waits for its own sends. Each phase is stated as one step from
`n` chunks done to `n + 1`, for any chunk.
-/
module

public import proofs.«01_k».proof.Proof.OnKernelIdeal.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## A phase over the chunks -/

/-- Chunks below `n` are done and hold `post`; the others still hold `pre`. -/
def phase (pre post : Fin 8 → sProp 𝕄) (n : ℕ) : sProp 𝕄 :=
  iprop((bigSep (Finset.univ.filter fun j : Fin 8 => n ≤ j.val) pre) ∗ bigSep (Finset.univ.filter fun j : Fin 8 => j.val < n) post)

theorem filter_lt_succ (k : Fin 8) : Finset.univ.filter (fun j : Fin 8 => j.val < k.val + 1)
    = insert k (Finset.univ.filter (fun j : Fin 8 => j.val < k.val)) := by revert k; decide
theorem not_mem_lt (k : Fin 8) : k ∉ Finset.univ.filter (fun j : Fin 8 => j.val < k.val) := by
  rw [Finset.mem_filter]; rintro ⟨-, h⟩; omega

theorem phase_begin (pre post : Fin 8 → sProp 𝕄) : bigSep Finset.univ pre ⊢ phase pre post 0 := by
  unfold phase
  rw [show Finset.univ.filter (fun j : Fin 8 => 0 ≤ j.val) = Finset.univ by decide,
    show Finset.univ.filter (fun j : Fin 8 => j.val < 0) = ∅ by decide, bigSep_empty]
  exact Laws.sep_emp.2
theorem phase_end (pre post : Fin 8 → sProp 𝕄) : phase pre post 8 ⊢ bigSep Finset.univ post := by
  unfold phase
  rw [show Finset.univ.filter (fun j : Fin 8 => 8 ≤ j.val) = ∅ by decide,
    show Finset.univ.filter (fun j : Fin 8 => j.val < 8) = Finset.univ by decide, bigSep_empty]
  iintro ⟨-, H⟩; iexact H

theorem phase_todo (pre post : Fin 8 → sProp 𝕄) (k : Fin 8) : phase pre post k.val
    = iprop((pre k ∗ bigSep (Finset.univ.filter fun j : Fin 8 => k.val + 1 ≤ j.val) pre) ∗ bigSep (Finset.univ.filter fun j : Fin 8 => j.val < k.val) post) := by
  unfold phase; rw [filter_peel, bigSep_insert (not_mem_peel k)]; rfl
theorem phase_done (pre post : Fin 8 → sProp 𝕄) (k : Fin 8) : phase pre post (k.val + 1)
    = iprop((bigSep (Finset.univ.filter fun j : Fin 8 => k.val + 1 ≤ j.val) pre) ∗ post k ∗ bigSep (Finset.univ.filter fun j : Fin 8 => j.val < k.val) post) := by
  unfold phase; rw [filter_lt_succ, bigSep_insert (not_mem_lt k)]; rfl

/-- A step on chunk `k` is a step of the phase; the shared records `R` stay at hand. -/
theorem phase_step {pre post : Fin 8 → sProp 𝕄} {R A B W G : sProp 𝕄} [BI.Persistent R] (k : Fin 8)
    (h : iprop(R ∗ pre k ∗ A) ⊢ iprop(((post k ∗ B) -∗ W) -∗ G)) :
    iprop(R ∗ phase pre post k.val ∗ A) ⊢ iprop(((R ∗ phase pre post (k.val + 1) ∗ B) -∗ W) -∗ G) := by
  rw [phase_todo, phase_done]
  iintro ⟨#HR, ⟨⟨Hk, Htodo⟩, Hdone⟩, HA⟩ Hnext
  iapply h $$ [Hk HA]
  · isplitr; · iexact HR
    isplitl [Hk] <;> iassumption
  iintro ⟨Hk, HB⟩
  iapply Hnext
  isplitr; · iexact HR
  isplitr [HB]
  · isplitl [Htodo]; · iexact Htodo
    isplitl [Hk] <;> iassumption
  · iexact HB

/-- Eight chunks each at some contents, from a whole buffer's. -/
theorem some_each {B : Type} (Φ : B → Fin 8 → sProp 𝕄) (f : B) : bigSep Finset.univ (Φ f) ⊢ bigSep Finset.univ fun k => iprop(∃ f, Φ f k) :=
  bigSep_mono fun k _ => exists_intro (Φ := fun f => Φ f k) f

/-! ## The local copies -/

def localPre (c : Dev nD) (k : Fin 8) : sProp 𝕄 := iprop(keepPts m c k ∗ (∃ f, kPts c k f) ∗ idle c (ch 0 k))

theorem local_begin (c : Dev nD) : iprop((bigSep Finset.univ fun k => keepPts m c k) ∗ (bigSep Finset.univ fun k => iprop(∃ f, kPts c k f)) ∗ bigSep Finset.univ fun k => idle c (ch 0 k))
    ⊢ phase (localPre m c) (fun k => busy c (ch 0 k)) 0 := by
  refine Entails.trans (Entails.of_eq ?_) (phase_begin _ _)
  unfold localPre; rw [bigSep_sep', bigSep_sep']

theorem local_phase (c : Dev nD) (k : Fin 8) {n : ℕ} (hn : k.val = n) {off : Fin 3 → ℕ} {hoff} (ho : off = keepOff c k) {row : Fin 2 → ℕ} {hrow}
    (hr : row = ![64 * k.val, 0]) {i : DmaSem sig} (hi : i = chunkS 0 k)
    {hsrc : (xBlk off hoff).view.WordExact} {hdst : (kRow row hrow).view.WordExact}
    {hsem : DmaTarget.Typed (nD := nD) (τ := τ) (p := .tc) .hbm (.dma i) (.here (kRow row hrow))}
    {α : Type} {Q : α → sProp 𝕄} {next : PUnit → Prog (TpuEff nD τ sig (Elt F) Λ₀ .tc) α} (O : CellTallies nD τ sig Unit) :
    iprop(records m K ∗ phase (localPre m c) (fun k => busy c (ch 0 k)) n ∗ ow c O)
      ⊢ iprop(((records m K ∗ phase (localPre m c) (fun k => busy c (ch 0 k)) (n + 1) ∗ ow c O) -∗ run c (next ⟨⟩) Q)
          -∗ run c (.op (.enqueueDma (xBlk off hoff) (.here (kRow row hrow)) (.dma i) hsrc hdst hsem) next) Q) := by
  subst hn
  refine phase_step k ?_
  unfold localPre
  iintro ⟨HR, H, HO⟩ Hk
  iapply (local_step m K c k ho hr hi) $$ [HR H]
  · isplitl [HR] <;> iassumption
  iintro H
  iapply Hk
  isplitl [H] <;> iassumption

/-! ## The sends over the row -/

theorem ysendPay_all (c : Dev nD) : (bigSep Finset.univ fun k => ysendPay m c k)
    = iprop(sPts c (stagedX m c) ∗ bigSep (Finset.univ.erase 0) fun k => sendPts m c k : sProp 𝕄) := by
  rw [bigSep_univ_at _ (0 : Fin 8), bigSep_congr (s := Finset.univ.erase 0) (Ψ := fun k => sendPts m c k) fun k hk => by
    unfold ysendPay; rw [if_neg (Finset.ne_of_mem_erase hk)]]
  unfold ysendPay
  rw [if_pos rfl]

theorem ysend_begin (c : Dev nD) : iprop((sPts c (stagedX m c) ∗ bigSep (Finset.univ.erase 0) fun k => sendPts m c k)
      ∗ (bigSep Finset.univ fun k => iprop(∃ f, yPts (yp c) k f)) ∗ (bigSep Finset.univ fun k => idle c (ch 1 k)) ∗ bigSep Finset.univ fun k => ticket (yp c) (ch 2 k))
    ⊢ phase (ysendPre m c) (fun k => busy c (ch 1 k)) 0 := by
  refine Entails.trans (Entails.of_eq ?_) (phase_begin _ _)
  unfold ysendPre; rw [bigSep_sep', bigSep_sep', bigSep_sep', ysendPay_all]

/-- The first send takes the staging block; -/
theorem first_phase (c n : Dev nD) (hn : n = yp c) {row : Fin 2 → ℕ} {hrow} (hr : row = ![0, 0]) {i j : DmaSem sig}
    (hi : i = chunkS 1 0) (hj : j = chunkS 2 0)
    {hsc : (yRow row hrow : Memref sig (Dev.tc n : Thread nD τ).2.kind .vmem S64x512 .f32).view.ref.isScScratch = false}
    {hsrc : (sM : Memref sig .tc .vmem S64x512 .f32).view.WordExact}
    {hdst : (yRow row hrow : Memref sig (Dev.tc n : Thread nD τ).2.kind .vmem S64x512 .f32).view.WordExact}
    {hsem : DmaTarget.Typed .vmem (.dma j) (.remote (Dev.tc n : Thread nD τ)
      (yRow row hrow : Memref sig (Dev.tc n : Thread nD τ).2.kind .vmem S64x512 .f32) (.dma i) hsc)}
    {α : Type} {Q : α → sProp 𝕄} {next : PUnit → Prog (TpuEff nD τ sig (Elt F) Λ₀ .tc) α} :
    iprop(records m K ∗ phase (ysendPre m c) (fun k => busy c (ch 1 k)) 0 ∗ ow c (owed c 0 0))
      ⊢ iprop(((records m K ∗ phase (ysendPre m c) (fun k => busy c (ch 1 k)) 1 ∗ ow c (owed c 1 0)) -∗ run c (next ⟨⟩) Q)
          -∗ run c (.op (.enqueueDma (sM : Memref sig .tc .vmem S64x512 .f32) (.remote (Dev.tc n : Thread nD τ) (yRow row hrow) (.dma i) hsc) (.dma j) hsrc hdst hsem) next) Q) :=
  phase_step (0 : Fin 8) (ysend_step m K c n hn 0 sM (stagedX m c)
    (by unfold ysendPay; rw [if_pos rfl]; rfl) (fun fd => first_lands m c (yp c) fd) hr hi hj)

/-- the later ones take the operand's chunk. -/
theorem ysend_phase (c n : Dev nD) (hn : n = yp c) (k : Fin 8) (hk : k ≠ 0) {t : ℕ} (ht : k.val = t) {off : Fin 3 → ℕ} {hoff} (ho : off = sendOff c k)
    {row : Fin 2 → ℕ} {hrow} (hr : row = ![64 * k.val, 0]) {i j : DmaSem sig} (hi : i = chunkS 1 k) (hj : j = chunkS 2 k)
    {hsc : (yRow row hrow : Memref sig (Dev.tc n : Thread nD τ).2.kind .vmem S64x512 .f32).view.ref.isScScratch = false}
    {hsrc : (xBlk off hoff).view.WordExact}
    {hdst : (yRow row hrow : Memref sig (Dev.tc n : Thread nD τ).2.kind .vmem S64x512 .f32).view.WordExact}
    {hsem : DmaTarget.Typed .hbm (.dma j) (.remote (Dev.tc n : Thread nD τ)
      (yRow row hrow : Memref sig (Dev.tc n : Thread nD τ).2.kind .vmem S64x512 .f32) (.dma i) hsc)}
    {α : Type} {Q : α → sProp 𝕄} {next : PUnit → Prog (TpuEff nD τ sig (Elt F) Λ₀ .tc) α} :
    iprop(records m K ∗ phase (ysendPre m c) (fun k => busy c (ch 1 k)) t ∗ ow c (owed c t 0))
      ⊢ iprop(((records m K ∗ phase (ysendPre m c) (fun k => busy c (ch 1 k)) (t + 1) ∗ ow c (owed c (t + 1) 0)) -∗ run c (next ⟨⟩) Q)
          -∗ run c (.op (.enqueueDma (xBlk off hoff) (.remote (Dev.tc n : Thread nD τ) (yRow row hrow) (.dma i) hsc) (.dma j) hsrc hdst hsem) next) Q) := by
  subst ht ho
  exact phase_step k (ysend_step m K c n hn k (sendB c k) (X m c)
    (by unfold ysendPay; rw [if_neg hk]; rfl) (fun fd => y_lands m c (yp c) k fd) hr hi hj)

/-! ## Adding, and the sends over the column -/

/-- Both chunks loaded and added, the sum stored in the chunk's rows of the result. -/
theorem add_step (c : Dev nD) (k : Fin 8) {row : Fin 2 → ℕ} {hrow} (hr : row = ![64 * k.val, 0]) {off : Fin 2 → ℕ} {hoff} (ho : off = outOff c k)
    (pay : Vec F S64x512 .f32 → Vec F S64x512 .f32 → FVec F S64x512 .f32) (hp : ∀ a b, pay a b = addf a b)
    {hl₁ hl₂ hl₃} {hx hm} {α : Type} {Q : α → sProp 𝕄} {next : PUnit → Prog (TpuEff nD τ sig (Elt F) Λ₀ .tc) α} :
    iprop(kPts c k (keptX m c) ∗ yPts c k (sentX m (yp c)) ∗ (∃ f, outPts c c k f))
      ⊢ iprop(((kPts c k (keptX m c) ∗ yPts c k (sentX m (yp c)) ∗ outPts c c k (outX m c)) -∗ run c (next ⟨⟩) Q)
          -∗ run c (.op (.load kM (Rect.unit (s := S512x512) row S64x512.size hrow).toLoadRect hl₁) fun v =>
              .op (.load yM (Rect.unit (s := S512x512) row S64x512.size hrow).toLoadRect hl₂) fun w =>
              .op (.load outM (Rect.unit (s := S1024x512) off S64x512.size hoff).toLoadRect hl₃) fun _ =>
              .op (.store outM (Rect.unit (s := S1024x512) off S64x512.size hoff) (pay v w) Finset.univ hx hm) next) Q) := by
  subst hr ho
  unfold kPts yPts outPts
  iintro ⟨Hk, Hy, ⟨%f, Ho⟩⟩ Hnext
  iapply (wp_load_rect 𝒱₀ (c : Thread nD τ) none Set.univ (m := kM) (r := rowR k) (Finset.Subset.refl _)) $$ Hk; iintro Hk
  iapply (wp_load_rect 𝒱₀ (c : Thread nD τ) none Set.univ (m := yM) (r := rowR k) (Finset.Subset.refl _)) $$ Hy; iintro Hy
  iapply (wp_load_rect 𝒱₀ (c : Thread nD τ) none Set.univ (m := outM) (r := outR c k) (Finset.Subset.refl _)) $$ Ho; iintro Ho
  iapply (wp_store 𝒱₀ (c : Thread nD τ) none Set.univ (m := outM) (r := outR c k) (Mk := Finset.univ) (S := (outM.access (outR c k)).set) (Finset.Subset.refl _)) $$ Ho; iintro Ho
  iapply Hnext
  isplitl [Hk]; · iexact Hk
  isplitl [Hy]; · iexact Hy
  rw [hp]
  have h := sum_lands m c k f
  unfold outPts at h
  iapply (Entails.of_eq h)
  iexact Ho

/-- Of chunk `k` before the addition: both copies under way, the rows to write, and what its send takes; -/
def addPre (c : Dev nD) (k : Fin 8) : sProp 𝕄 :=
  iprop((busy c (ch 2 k) ∗ busy c (ch 0 k)) ∗ (∃ f, outPts c c k f) ∗ xsendPre c k)
/-- after it: both receive buffers' chunks and the kept chunk back, both counters at zero, the send under way. -/
def addPost (c : Dev nD) (k : Fin 8) : sProp 𝕄 :=
  iprop((kPts c k (keptX m c) ∗ yPts c k (sentX m (yp c)) ∗ keepPts m c k)
    ∗ (semVal (chunkCell c 2 k) 0 ∗ semVal (chunkCell c 0 k) 0) ∗ busy c (ch 3 k))

theorem add_begin (c : Dev nD) : iprop(((bigSep Finset.univ fun k => busy c (ch 2 k)) ∗ bigSep Finset.univ fun k => busy c (ch 0 k))
      ∗ (bigSep Finset.univ fun k => iprop(∃ f, outPts c c k f)) ∗ (bigSep Finset.univ fun k => iprop(∃ f, outPts (xp c) c k f))
      ∗ (bigSep Finset.univ fun k => idle c (ch 3 k)) ∗ bigSep Finset.univ fun k => ticket (xp c) (ch 4 k))
    ⊢ phase (addPre c) (addPost m c) 0 := by
  refine Entails.trans (Entails.of_eq ?_) (phase_begin _ _)
  unfold addPre xsendPre; rw [bigSep_sep', bigSep_sep', bigSep_sep', bigSep_sep', bigSep_sep']
theorem add_end (c : Dev nD) : phase (addPre c) (addPost m c) 8
    ⊢ iprop(((bigSep Finset.univ fun k => kPts c k (keptX m c)) ∗ (bigSep Finset.univ fun k => yPts c k (sentX m (yp c))) ∗ bigSep Finset.univ fun k => keepPts m c k)
      ∗ ((bigSep Finset.univ fun k => semVal (chunkCell c 2 k) 0) ∗ bigSep Finset.univ fun k => semVal (chunkCell c 0 k) 0)
      ∗ bigSep Finset.univ fun k => busy c (ch 3 k)) := by
  refine Entails.trans (phase_end _ _) (Entails.of_eq ?_)
  unfold addPost; rw [bigSep_sep', bigSep_sep', bigSep_sep', bigSep_sep', bigSep_sep']

/-- The wait for the receipt over the row and for the local copy, the addition, and the send over the column. -/
theorem add_phase (c n : Dev nD) (hn : n = xp c) (k : Fin 8) {t : ℕ} (ht : k.val = t) {row : Fin 2 → ℕ} {hrow} (hr : row = ![64 * k.val, 0])
    {off off' : Fin 2 → ℕ} {hoff hoff'} (ho : off = outOff c k) (ho' : off' = outOff c k)
    (pay : Vec F S64x512 .f32 → Vec F S64x512 .f32 → FVec F S64x512 .f32) (hp : ∀ a b, pay a b = addf a b)
    {i₂ i₀ i j : DmaSem sig} (hi₂ : i₂ = chunkS 2 k) (hi₀ : i₀ = chunkS 0 k) (hi : i = chunkS 3 k) (hj : j = chunkS 4 k)
    {sp sp' : Space} {src₂ : Memref sig .tc sp S64x512 .f32} {src₀ : Memref sig .tc sp' S64x512 .f32} {hs₂ hd₂ hs₀ hd₀}
    {hl₁ hl₂ hl₃} {hx hm}
    {hsc : (outBlk off' hoff' : Memref sig (Dev.tc n : Thread nD τ).2.kind .vmem S64x512 .f32).view.ref.isScScratch = false}
    {hsrc : (outBlk off' hoff').view.WordExact}
    {hdst : (outBlk off' hoff' : Memref sig (Dev.tc n : Thread nD τ).2.kind .vmem S64x512 .f32).view.WordExact}
    {hsem : DmaTarget.Typed .vmem (.dma j) (.remote (Dev.tc n : Thread nD τ)
      (outBlk off' hoff' : Memref sig (Dev.tc n : Thread nD τ).2.kind .vmem S64x512 .f32) (.dma i) hsc)}
    {α : Type} {Q : α → sProp 𝕄} {next : PUnit → Prog (TpuEff nD τ sig (Elt F) Λ₀ .tc) α} :
    iprop((records m K ∗ levAts L lv) ∗ phase (addPre c) (addPost m c) t ∗ ow c (owed c 8 t))
      ⊢ iprop((((records m K ∗ levAts L lv) ∗ phase (addPre c) (addPost m c) (t + 1) ∗ ow c (owed c 8 (t + 1))) -∗ run c (next ⟨⟩) Q)
          -∗ run c (.op (.waitDma2 i₂ src₂ (yRow row hrow) hs₂ hd₂) fun _ =>
              .op (.waitDma2 i₀ src₀ (kRow row hrow) hs₀ hd₀) fun _ =>
              .op (.load kM (Rect.unit (s := S512x512) row S64x512.size hrow).toLoadRect hl₁) fun v =>
              .op (.load yM (Rect.unit (s := S512x512) row S64x512.size hrow).toLoadRect hl₂) fun w =>
              .op (.load outM (Rect.unit (s := S1024x512) off S64x512.size hoff).toLoadRect hl₃) fun _ =>
              .op (.store outM (Rect.unit (s := S1024x512) off S64x512.size hoff) (pay v w) Finset.univ hx hm) fun _ =>
              .op (.enqueueDma (outBlk off' hoff') (.remote (Dev.tc n : Thread nD τ) (outBlk off' hoff') (.dma i) hsc) (.dma j) hsrc hdst hsem) next) Q) := by
  subst ht
  refine phase_step k ?_
  unfold addPre addPost
  iintro ⟨⟨#HR, #HL⟩, ⟨⟨H2, H0⟩, Ho, Hx⟩, HO⟩ Hk
  iapply (wait_chunk m K c 2 k i₂ hi₂ _ (mayWait_mid c _ (by rw [level_yrecv]; decide) k.val) (yRow_credit _ _)) $$ [H2 HO]
  · isplitr; · isplitr <;> iassumption
    isplitl [H2] <;> iassumption
  iintro ⟨Hy, Hz2, HO⟩
  ihave Hy := (show chunkPay m c (2 : Fin 5).val k ⊢ yPts c k (sentX m (yp c)) from Entails.rfl) $$ Hy
  iapply (wait_chunk m K c 0 k i₀ hi₀ _ (mayWait_low c _ (by rw [level_local]; decide) 8 k.val) (kRow_credit _ _)) $$ [H0 HO]
  · isplitr; · isplitr <;> iassumption
    isplitl [H0] <;> iassumption
  iintro ⟨Hp, Hz0, HO⟩
  icases (show chunkPay m c (0 : Fin 5).val k ⊢ iprop(kPts c k (keptX m c) ∗ keepPts m c k) from Entails.rfl) $$ Hp with ⟨Hkp, Hkeep⟩
  iapply (add_step m c k hr ho pay hp) $$ [Hkp Hy Ho]
  · isplitl [Hkp]; · iexact Hkp
    isplitl [Hy] <;> iassumption
  iintro ⟨Hkp, Hy, Ho⟩
  iapply (xsend_step m K c n hn k ho' hi hj) $$ [Ho Hx HO]
  · isplitr; · iexact HR
    isplitl [Ho Hx]; · isplitl [Ho] <;> iassumption
    iexact HO
  iintro ⟨H3, HO⟩
  iapply Hk
  isplitr [HO]
  · isplitl [Hkp Hy Hkeep]
    · isplitl [Hkp]; · iexact Hkp
      isplitl [Hy] <;> iassumption
    isplitl [Hz2 Hz0]
    · isplitl [Hz2] <;> iassumption
    iexact H3
  · iexact HO

/-! ## The last waits -/

def recvPost (c : Dev nD) (k : Fin 8) : sProp 𝕄 := iprop(xrecvPay m c k ∗ semVal (chunkCell c 4 k) 0)

theorem recv_end (c : Dev nD) : phase (fun k => busy c (ch 4 k)) (recvPost m c) 8
    ⊢ iprop((bigSep Finset.univ fun k => outPts c (xp c) k (outX m c)) ∗ bigSep Finset.univ fun k => semVal (chunkCell c 4 k) 0) := by
  refine Entails.trans (phase_end _ _) (Entails.of_eq ?_)
  unfold recvPost xrecvPay; rw [bigSep_sep']

/-- The wait for the receipt over the column. -/
theorem recv_phase (c : Dev nD) (k : Fin 8) {t : ℕ} (ht : k.val = t) {i : DmaSem sig} (hi : i = chunkS 4 k)
    {sp : Space} {src : Memref sig .tc sp S64x512 .f32} {off : Fin 2 → ℕ} {hoff} {hs hd}
    {α : Type} {Q : α → sProp 𝕄} {next : PUnit → Prog (TpuEff nD τ sig (Elt F) Λ₀ .tc) α} :
    iprop((records m K ∗ levAts L lv) ∗ phase (fun k => busy c (ch 4 k)) (recvPost m c) t ∗ ow c (owed c 8 8))
      ⊢ iprop((((records m K ∗ levAts L lv) ∗ phase (fun k => busy c (ch 4 k)) (recvPost m c) (t + 1) ∗ ow c (owed c 8 8)) -∗ run c (next ⟨⟩) Q)
          -∗ run c (.op (.waitDma2 i src (outBlk off hoff) hs hd) next) Q) := by
  subst ht
  refine phase_step k ?_
  unfold recvPost
  iintro H Hk
  iapply (wait_chunk m K c 4 k i hi _ (mayWait_done c _) (outBlk_credit _ _)) $$ H
  iintro ⟨Hp, Hz, HO⟩
  ihave Hp := (show chunkPay m c (4 : Fin 5).val k ⊢ xrecvPay m c k from Entails.rfl) $$ Hp
  iapply Hk
  isplitr [HO]
  · isplitl [Hp] <;> iassumption
  · iexact HO

def drainPre (c : Dev nD) (k : Fin 8) : sProp 𝕄 := iprop(busy c (ch 1 k) ∗ busy c (ch 3 k))
def drainPost (c : Dev nD) (k : Fin 8) : sProp 𝕄 :=
  iprop((ysendPay m c k ∗ xsendPay m c k) ∗ semVal (chunkCell c 1 k) 0 ∗ semVal (chunkCell c 3 k) 0)

theorem drain_begin (c : Dev nD) : iprop((bigSep Finset.univ fun k => busy c (ch 1 k)) ∗ bigSep Finset.univ fun k => busy c (ch 3 k))
    ⊢ phase (drainPre c) (drainPost m c) 0 := by
  refine Entails.trans (Entails.of_eq ?_) (phase_begin _ _)
  unfold drainPre; rw [bigSep_sep']
theorem drain_end (c : Dev nD) : phase (drainPre c) (drainPost m c) 8
    ⊢ iprop(((sPts c (stagedX m c) ∗ bigSep (Finset.univ.erase 0) fun k => sendPts m c k) ∗ bigSep Finset.univ fun k => outPts c c k (outX m c))
      ∗ (bigSep Finset.univ fun k => semVal (chunkCell c 1 k) 0) ∗ bigSep Finset.univ fun k => semVal (chunkCell c 3 k) 0) := by
  refine Entails.trans (phase_end _ _) (Entails.of_eq ?_)
  unfold drainPost xsendPay; rw [bigSep_sep', bigSep_sep', bigSep_sep', ysendPay_all]

/-- The waits for the chunk's own two sends. -/
theorem drain_phase (c : Dev nD) (k : Fin 8) {t : ℕ} (ht : k.val = t) {i₁ i₃ : DmaSem sig} (hi₁ : i₁ = chunkS 1 k) (hi₃ : i₃ = chunkS 3 k)
    {sp sp' sp₁ : Space} {src₁ : Memref sig .tc sp S64x512 .f32} {dst₁ : Memref sig .tc sp₁ S64x512 .f32} {src₃ : Memref sig .tc sp' S64x512 .f32} {off : Fin 2 → ℕ} {hoff}
    {hs₁ hd₁ hs₃ hd₃} (hN : dst₁.view.dmaCredit = N)
    {α : Type} {Q : α → sProp 𝕄} {next : PUnit → Prog (TpuEff nD τ sig (Elt F) Λ₀ .tc) α} :
    iprop((records m K ∗ levAts L lv) ∗ phase (drainPre c) (drainPost m c) t ∗ ow c (owed c 8 8))
      ⊢ iprop((((records m K ∗ levAts L lv) ∗ phase (drainPre c) (drainPost m c) (t + 1) ∗ ow c (owed c 8 8)) -∗ run c (next ⟨⟩) Q)
          -∗ run c (.op (.waitDma2 i₁ src₁ dst₁ hs₁ hd₁) fun _ => .op (.waitDma2 i₃ src₃ (outBlk off hoff) hs₃ hd₃) next) Q) := by
  subst ht
  refine phase_step k ?_
  unfold drainPre drainPost
  iintro ⟨⟨#HR, #HL⟩, ⟨H1, H3⟩, HO⟩ Hk
  iapply (wait_chunk m K c 1 k i₁ hi₁ _ (mayWait_done c _) hN) $$ [H1 HO]
  · isplitr; · isplitr <;> iassumption
    isplitl [H1] <;> iassumption
  iintro ⟨Hp1, Hz1, HO⟩
  ihave Hp1 := (show chunkPay m c (1 : Fin 5).val k ⊢ ysendPay m c k from Entails.rfl) $$ Hp1
  iapply (wait_chunk m K c 3 k i₃ hi₃ _ (mayWait_done c _) (outBlk_credit _ _)) $$ [H3 HO]
  · isplitr; · isplitr <;> iassumption
    isplitl [H3] <;> iassumption
  iintro ⟨Hp3, Hz3, HO⟩
  ihave Hp3 := (show chunkPay m c (3 : Fin 5).val k ⊢ xsendPay m c k from Entails.rfl) $$ Hp3
  iapply Hk
  isplitr [HO]
  · isplitl [Hp1 Hp3]; · isplitl [Hp1] <;> iassumption
    isplitl [Hz1] <;> iassumption
  · iexact HO

end Cert.KernelIdeal.Own
-- ==== Proof.OnKernelIdeal.Body.lean ====
/-
# 01_k — one device's body

The kernel body of one device, from what the launch deals it to the finished result: the phases of the exchange in program order.
-/
module

public import proofs.«01_k».proof.Proof.OnKernelIdeal.Phases

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The barrier -/

/-- Of the barriers: the device's position at its own, the credit to wait for both signals, the rights to signal both peers. -/
def barOwn (c : Dev nD) : sProp 𝕄 :=
  iprop(atPos ER (barCell c) 0 ∅ 0 ∗ cred (tallyAt (barCell c) () 2) ∗ dutyTok ER (barCell (yp c)) 0 true ∗ dutyTok ER (barCell (xp c)) 0 false)

/-- Both signals and the wait: the device lends its receive buffer to its row peer and the rows its column peer computes
    to that peer, and is lent theirs. -/
theorem barrier_step (c n₁ n₂ : Dev nD) (h₁ : n₁ = yp c) (h₂ : n₂ = xp c) {s : Sem sig} (hs : s = barS)
    {α : Type} {Q : α → sProp 𝕄} {next : PUnit → Prog (TpuEff nD τ sig (Elt F) Λ₀ .tc) α} :
    iprop((records m K ∗ levAts L lv) ∗ barOwn c ∗ (bigSep Finset.univ fun k => iprop(∃ f, yPts c k f))
        ∗ (bigSep Finset.univ fun k => iprop(∃ f, outPts c (xp c) k f)) ∗ ow c (owed₀ c))
      ⊢ iprop((((bigSep Finset.univ fun k => iprop(∃ f, yPts (yp c) k f)) ∗ (bigSep Finset.univ fun k => iprop(∃ f, outPts (xp c) c k f))
            ∗ semVal (barCell c) 0 ∗ ow c (owed c 0 0)) -∗ run c (next ⟨⟩) Q)
          -∗ run c (.op (.semSignal (n₁, .tc) s (1#32 : BitVec 32).toInt) fun _ => .op (.semSignal (n₂, .tc) s (1#32 : BitVec 32).toInt) fun _ =>
              .op (.semWait s (2#32 : BitVec 32).toInt) next) Q) := by
  subst h₁ h₂ hs
  unfold barOwn ow
  iintro ⟨⟨#HR, #HL⟩, ⟨Hat, Hc, Hty, Htx⟩, Hy, Ho, ⟨%W, HO⟩⟩ Hk
  ihave #HI := (records_inv m K c (.inl ())) $$ HR
  ihave #HIy := (records_inv m K (yp c) (.inl ())) $$ HR
  ihave #HIx := (records_inv m K (xp c) (.inl ())) $$ HR
  ihave #Hry := (records_reached m K (yp c) (.inl ())) $$ HR
  ihave #Hrx := (records_reached m K (xp c) (.inl ())) $$ HR
  iapply (Rounds.wp_signal 𝒱₀ ER (sched m) (c : Thread nD τ) none (dst := (yp c : Thread nD τ)) (κ := K (yp c, .inl ()))
      (d := true) (by rw [duties_bar]; exact Finset.mem_univ _) rfl () (owed₁ c) rfl) $$ [HO Hty Hy]
  · isplitr; · iexact HIy
    isplitl [HO]; · iexact HO
    isplitl [Hty]; · iexact Hty
    isplitl [Hy]
    · rw [payload_bar]; unfold barPay; rw [if_pos rfl, yp_yp]; iexact Hy
    iexact Hry
  iintro HO
  iapply (Rounds.wp_signal 𝒱₀ ER (sched m) (c : Thread nD τ) none (dst := (xp c : Thread nD τ)) (κ := K (xp c, .inl ()))
      (d := false) (by rw [duties_bar]; exact Finset.mem_univ _) rfl () (owed c 0 0) rfl) $$ [HO Htx Ho]
  · isplitr; · iexact HIx
    isplitl [HO]; · iexact HO
    isplitl [Htx]; · iexact Htx
    isplitl [Ho]
    · rw [payload_bar]; unfold barPay; rw [if_neg (by decide), xp_xp]; iexact Ho
    iexact Hrx
  iintro HO
  iapply (Rounds.wp_wait_rest_token 𝒱₀ ER (sched m) (c : Thread nD τ) none (κ := K (c, .inl ()))
      (wpE_semWait_eq 𝒱₀ (c : Thread nD τ) none Set.univ) (Set.mem_univ _) () (O := owed c 0 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_low c (.reg barS) (by decide) 0 0); iexact HL
    iexact Hat
  iintro ⟨HO, Hat, -, Hpay⟩
  ihave Hp := (Entails.of_eq (rest_bar m c)) $$ Hpay
  icases Hp with ⟨Hy, Ho⟩
  ihave Hy := (show barPay c true ⊢ (bigSep Finset.univ fun k => iprop(∃ f, yPts (yp c) k f) : sProp 𝕄) from Entails.refl _) $$ Hy
  ihave Ho := (show barPay c false ⊢ (bigSep Finset.univ fun k => iprop(∃ f, outPts (xp c) c k f) : sProp 𝕄) from Entails.refl _) $$ Ho
  imod (Rounds.cell_close ER (sched m) (Set.mem_univ (K (c, .inl ()))) (fun h => h) (R := 0 + 1) (duties_later m (barCell c))) $$ [Hat] with Hz
  · isplitr; · iexact HI
    iexact Hat
  iapply Hk
  isplitl [Hy]; · iexact Hy
  isplitl [Ho]; · iexact Ho
  isplitl [Hz]; · iexact Hz
  iexists _; iexact HO

/-! ## What the launch deals a device, and what it ends with -/

/-- Its semaphores: the barriers, and per transfer what starting or awaiting it takes. -/
def semsOwn (c : Dev nD) : sProp 𝕄 :=
  iprop(barOwn c ∗ idle c st
    ∗ (bigSep Finset.univ fun k => idle c (ch 0 k)) ∗ (bigSep Finset.univ fun k => idle c (ch 1 k)) ∗ (bigSep Finset.univ fun k => idle c (ch 3 k))
    ∗ (bigSep Finset.univ fun k => ticket (yp c) (ch 2 k)) ∗ (bigSep Finset.univ fun k => ticket (xp c) (ch 4 k))
    ∗ (bigSep Finset.univ fun k => busy c (ch 2 k)) ∗ (bigSep Finset.univ fun k => busy c (ch 4 k)))

/-- Its scratch buffers, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Every semaphore at zero. -/
def zeros (c : Dev nD) : sProp 𝕄 :=
  iprop(semVal (barCell c) 0 ∗ bigSep Finset.univ fun o : OI => semVal (ocell c o) 0)

/-- Over the transfer semaphores: the staging copy's, and the five kinds of chunks. -/
theorem bigSep_oi (Φ : OI → sProp 𝕄) : bigSep Finset.univ Φ = iprop(Φ st ∗ (bigSep Finset.univ fun k => Φ (ch 0 k)) ∗ (bigSep Finset.univ fun k => Φ (ch 1 k))
    ∗ (bigSep Finset.univ fun k => Φ (ch 2 k)) ∗ (bigSep Finset.univ fun k => Φ (ch 3 k)) ∗ (bigSep Finset.univ fun k => Φ (ch 4 k))) := by
  rw [BI.bigSep_univ_sum, BI.bigSep_univ_prod, bigSep_univ_eq_bigSepL [()] (by decide) (by decide),
    bigSep_univ_eq_bigSepL [(0 : Fin 5), 1, 2, 3, 4] (by decide) (by decide)]
  rfl

theorem dev_eq {n : ℕ} {h : n < nD} {d : Dev nD} (e : n = d.val) : (⟨n, h⟩ : Dev nD) = d := Fin.ext e

theorem xBlk_credit (off h) : (xBlk off h).view.dmaCredit = N := View.dmaCredit_closed _ S64x512 rfl 0 rfl N rfl

/-! ## The body -/

set_option maxHeartbeats 4000000 in
set_option maxRecDepth 16000 in
/-- The body of one device: from its dealt semaphores, its operand, its scratch and its window of the result at any
    contents, to the window at the sum's columns, everything else given back and every semaphore at zero. -/
theorem exchange (c : Dev nD) (f : Buf (Elt F) ((c : Thread nD τ).loc cc0_stg0_0)) (Q : PUnit → sProp 𝕄) :
    iprop(((records m K ∗ levAts L lv) ∗ semsOwn c ∗ (((c : Thread nD τ).loc main_arg0) ↦{fullShare} X m c) ∗ scr c
        ∗ (((c : Thread nD τ).loc cc0_stg0_0) ↦{fullShare} f) ∗ ow c (owed₀ c))
        ∗ ((zeros c ∗ (((c : Thread nD τ).loc main_arg0) ↦{fullShare} X m c) ∗ scr c
          ∗ (((c : Thread nD τ).loc cc0_stg0_0) ↦{fullShare} outX m c) ∗ ow c 0) -∗ Q ⟨⟩))
      ⊢ run c (cc0_body (Memref.whole main_arg0) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8) Q := by
  simp only [cc0_body_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton, k0_part18_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold semsOwn scr
  iintro ⟨⟨#HRL, ⟨Hbar, Hst, Hi0, Hi1, Hi3, Ht2, Ht4, Hb2, Hb4⟩, Hx, ⟨⟨%fy, Hy⟩, ⟨%fk, Hk⟩, ⟨%fs, Hs⟩⟩, Hout, HO⟩, Hend⟩
  ihave #HR := (show iprop(records m K ∗ levAts L lv) ⊢ records m K from Laws.sep_and.trans and_elimL) $$ HRL
  -- the buffers in their chunks
  ihave Hx := (x_split m c).1 $$ Hx
  icases Hx with ⟨⟨Hkeep, Hsend⟩, Hrest⟩
  ihave Hsend := (Entails.of_eq (bigSep_univ_at (fun k => sendPts m c k) (0 : Fin 8))) $$ Hsend
  icases Hsend with ⟨Hsend0, Hsends⟩
  ihave Hy := ((Entails.of_eq (y_split c fy)).trans (some_each (fun f k => yPts c k f) fy)) $$ Hy
  ihave Hk := ((Entails.of_eq (k_split c fk)).trans (some_each (fun f k => kPts c k f) fk)) $$ Hk
  ihave Hs := (Entails.of_eq (s_whole c fs)) $$ Hs
  ihave Hout := ((Entails.of_eq (out_split c f)).trans (BIClass.sep_mono (some_each (fun f k => outPts c c k f) f) (some_each (fun f k => outPts c (xp c) k f) f))) $$ Hout
  icases Hout with ⟨Hmine, Htheirs⟩
  -- the local copies
  ihave Hp := (local_begin m c) $$ [Hkeep Hk Hi0]
  · isplitl [Hkeep]; · iexact Hkeep
    isplitl [Hk] <;> iassumption
  iapply (local_phase m K c 0 (n := 0) rfl (off := k0_off1 c 0#32) (k0_off1_eq c 0) (row := ![0, 0]) rfl rfl (owed₀ c)) $$ [Hp HO]
  · isplitr; · iexact HR
    isplitl [Hp] <;> iassumption
  iintro H
  iapply (local_phase m K c 1 (n := 1) rfl (off := k0_off1 c 64#32) (k0_off1_eq c 1) (row := ![64, 0]) rfl rfl (owed₀ c)) $$ H; iintro H
  iapply (local_phase m K c 2 (n := 2) rfl (off := k0_off1 c 128#32) (k0_off1_eq c 2) (row := ![128, 0]) rfl rfl (owed₀ c)) $$ H; iintro H
  iapply (local_phase m K c 3 (n := 3) rfl (off := k0_off1 c 192#32) (k0_off1_eq c 3) (row := ![192, 0]) rfl rfl (owed₀ c)) $$ H; iintro H
  iapply (local_phase m K c 4 (n := 4) rfl (off := k0_off1 c 256#32) (k0_off1_eq c 4) (row := ![256, 0]) rfl rfl (owed₀ c)) $$ H; iintro H
  iapply (local_phase m K c 5 (n := 5) rfl (off := k0_off1 c 320#32) (k0_off1_eq c 5) (row := ![320, 0]) rfl rfl (owed₀ c)) $$ H; iintro H
  iapply (local_phase m K c 6 (n := 6) rfl (off := k0_off1 c 384#32) (k0_off1_eq c 6) (row := ![384, 0]) rfl rfl (owed₀ c)) $$ H; iintro H
  iapply (local_phase m K c 7 (n := 7) rfl (off := k0_off1 c 448#32) (k0_off1_eq c 7) (row := ![448, 0]) rfl rfl (owed₀ c)) $$ H; iintro H
  icases H with ⟨-, Hp, HO⟩
  ihave Hb0 := (phase_end _ _) $$ Hp
  -- the staging copy
  iapply (stage_step m K c (k0_off2_eq c) rfl) $$ [Hsend0 Hs Hst]
  · isplitr; · iexact HR
    isplitl [Hsend0]; · iexact Hsend0
    isplitl [Hs]; · iexists fs; iexact Hs
    iexact Hst
  iintro Hst
  -- the barrier
  iapply (barrier_step m K c ⟨k0_dev1 c, k0_dev1_lt c⟩ ⟨k0_dev2 c, k0_dev2_lt c⟩ (dev_eq (k0_dev1_eq c)) (dev_eq (k0_dev2_eq c)) rfl) $$ [Hbar Hy Htheirs HO]
  · isplitr; · iexact HRL
    isplitl [Hbar]; · iexact Hbar
    isplitl [Hy]; · iexact Hy
    isplitl [Htheirs] <;> iassumption
  iintro ⟨Hpy, Hpx, Hzbar, HO⟩
  -- the staged chunk
  iapply (wait_step m K c st stageS rfl _ (mayWait_low c _ (by decide) 0 0) rfl) $$ [Hst HO]
  · isplitr; · iexact HRL
    isplitl [Hst] <;> iassumption
  iintro ⟨Hpay, Hzst, HO⟩
  ihave Hpay := (show dmaPay m c (stageS : DmaSem sig).val ⊢ iprop(sPts c (stagedX m c) ∗ sendPts m c 0) from Entails.refl _) $$ Hpay
  icases Hpay with ⟨Hs, Hsend0⟩
  -- the sends over the row
  ihave Hp := (ysend_begin m c) $$ [Hs Hsends Hpy Hi1 Ht2]
  · isplitl [Hs Hsends]; · isplitl [Hs] <;> iassumption
    isplitl [Hpy]; · iexact Hpy
    isplitl [Hi1] <;> iassumption
  iapply (first_phase m K c ⟨k0_dev3 c, k0_dev3_lt c⟩ (dev_eq (k0_dev3_eq c)) rfl rfl rfl) $$ [Hp HO]
  · isplitr; · iexact HR
    isplitl [Hp] <;> iassumption
  iintro H
  iapply (ysend_phase m K c ⟨k0_dev4 c, k0_dev4_lt c⟩ (dev_eq (k0_dev4_eq c)) 1 (by decide) (t := 1) rfl (off := k0_off3 c 64#32) (k0_off3_eq c 0) (row := ![64, 0]) rfl rfl rfl) $$ H; iintro H
  iapply (ysend_phase m K c ⟨k0_dev5 c, k0_dev5_lt c⟩ (dev_eq (k0_dev5_eq c)) 2 (by decide) (t := 2) rfl (off := k0_off3 c 128#32) (k0_off3_eq c 1) (row := ![128, 0]) rfl rfl rfl) $$ H; iintro H
  iapply (ysend_phase m K c ⟨k0_dev6 c, k0_dev6_lt c⟩ (dev_eq (k0_dev6_eq c)) 3 (by decide) (t := 3) rfl (off := k0_off3 c 192#32) (k0_off3_eq c 2) (row := ![192, 0]) rfl rfl rfl) $$ H; iintro H
  iapply (ysend_phase m K c ⟨k0_dev7 c, k0_dev7_lt c⟩ (dev_eq (k0_dev7_eq c)) 4 (by decide) (t := 4) rfl (off := k0_off3 c 256#32) (k0_off3_eq c 3) (row := ![256, 0]) rfl rfl rfl) $$ H; iintro H
  iapply (ysend_phase m K c ⟨k0_dev8 c, k0_dev8_lt c⟩ (dev_eq (k0_dev8_eq c)) 5 (by decide) (t := 5) rfl (off := k0_off3 c 320#32) (k0_off3_eq c 4) (row := ![320, 0]) rfl rfl rfl) $$ H; iintro H
  iapply (ysend_phase m K c ⟨k0_dev9 c, k0_dev9_lt c⟩ (dev_eq (k0_dev9_eq c)) 6 (by decide) (t := 6) rfl (off := k0_off3 c 384#32) (k0_off3_eq c 5) (row := ![384, 0]) rfl rfl rfl) $$ H; iintro H
  iapply (ysend_phase m K c ⟨k0_dev10 c, k0_dev10_lt c⟩ (dev_eq (k0_dev10_eq c)) 7 (by decide) (t := 7) rfl (off := k0_off3 c 448#32) (k0_off3_eq c 6) (row := ![448, 0]) rfl rfl rfl) $$ H; iintro H
  icases H with ⟨-, Hp, HO⟩
  ihave Hb1 := (phase_end _ _) $$ Hp
  -- the additions and the sends over the column
  ihave Hp := (add_begin m c) $$ [Hb2 Hb0 Hmine Hpx Hi3 Ht4]
  · isplitl [Hb2 Hb0]; · isplitl [Hb2] <;> iassumption
    isplitl [Hmine]; · iexact Hmine
    isplitl [Hpx]; · iexact Hpx
    isplitl [Hi3] <;> iassumption
  iapply (add_phase m K c ⟨k0_dev11 c, k0_dev11_lt c⟩ (dev_eq (k0_dev11_eq c)) 0 (t := 0) rfl (row := ![0, 0]) rfl (off := k0_off4 c 0#32) (off' := k0_off5 c 0#32) (k0_off4_eq c 0) (k0_off5_eq c 0) k0_pay1 (fun _ _ => rfl) rfl rfl rfl rfl) $$ [Hp HO]
  · isplitr; · iexact HRL
    isplitl [Hp] <;> iassumption
  iintro H
  iapply (add_phase m K c ⟨k0_dev12 c, k0_dev12_lt c⟩ (dev_eq (k0_dev12_eq c)) 1 (t := 1) rfl (row := ![64, 0]) rfl (off := k0_off4 c 64#32) (off' := k0_off5 c 64#32) (k0_off4_eq c 1) (k0_off5_eq c 1) k0_pay2 (fun _ _ => rfl) rfl rfl rfl rfl) $$ H; iintro H
  iapply (add_phase m K c ⟨k0_dev13 c, k0_dev13_lt c⟩ (dev_eq (k0_dev13_eq c)) 2 (t := 2) rfl (row := ![128, 0]) rfl (off := k0_off4 c 128#32) (off' := k0_off5 c 128#32) (k0_off4_eq c 2) (k0_off5_eq c 2) k0_pay3 (fun _ _ => rfl) rfl rfl rfl rfl) $$ H; iintro H
  iapply (add_phase m K c ⟨k0_dev14 c, k0_dev14_lt c⟩ (dev_eq (k0_dev14_eq c)) 3 (t := 3) rfl (row := ![192, 0]) rfl (off := k0_off4 c 192#32) (off' := k0_off5 c 192#32) (k0_off4_eq c 3) (k0_off5_eq c 3) k0_pay4 (fun _ _ => rfl) rfl rfl rfl rfl) $$ H; iintro H
  iapply (add_phase m K c ⟨k0_dev15 c, k0_dev15_lt c⟩ (dev_eq (k0_dev15_eq c)) 4 (t := 4) rfl (row := ![256, 0]) rfl (off := k0_off4 c 256#32) (off' := k0_off5 c 256#32) (k0_off4_eq c 4) (k0_off5_eq c 4) k0_pay5 (fun _ _ => rfl) rfl rfl rfl rfl) $$ H; iintro H
  iapply (add_phase m K c ⟨k0_dev16 c, k0_dev16_lt c⟩ (dev_eq (k0_dev16_eq c)) 5 (t := 5) rfl (row := ![320, 0]) rfl (off := k0_off4 c 320#32) (off' := k0_off5 c 320#32) (k0_off4_eq c 5) (k0_off5_eq c 5) k0_pay6 (fun _ _ => rfl) rfl rfl rfl rfl) $$ H; iintro H
  iapply (add_phase m K c ⟨k0_dev17 c, k0_dev17_lt c⟩ (dev_eq (k0_dev17_eq c)) 6 (t := 6) rfl (row := ![384, 0]) rfl (off := k0_off4 c 384#32) (off' := k0_off5 c 384#32) (k0_off4_eq c 6) (k0_off5_eq c 6) k0_pay7 (fun _ _ => rfl) rfl rfl rfl rfl) $$ H; iintro H
  iapply (add_phase m K c ⟨k0_dev18 c, k0_dev18_lt c⟩ (dev_eq (k0_dev18_eq c)) 7 (t := 7) rfl (row := ![448, 0]) rfl (off := k0_off4 c 448#32) (off' := k0_off5 c 448#32) (k0_off4_eq c 7) (k0_off5_eq c 7) k0_pay8 (fun _ _ => rfl) rfl rfl rfl rfl) $$ H; iintro H
  icases H with ⟨-, Hp, HO⟩
  ihave Hp := (add_end m c) $$ Hp
  icases Hp with ⟨⟨Hk, Hy, Hkeep⟩, ⟨Hz2, Hz0⟩, Hb3⟩
  -- the receipts over the column
  ihave Hp := (phase_begin (fun k => busy c (ch 4 k)) (recvPost m c)) $$ Hb4
  iapply (recv_phase m K c 0 (t := 0) rfl rfl) $$ [Hp HO]
  · isplitr; · iexact HRL
    isplitl [Hp] <;> iassumption
  iintro H
  iapply (recv_phase m K c 1 (t := 1) rfl rfl) $$ H; iintro H
  iapply (recv_phase m K c 2 (t := 2) rfl rfl) $$ H; iintro H
  iapply (recv_phase m K c 3 (t := 3) rfl rfl) $$ H; iintro H
  iapply (recv_phase m K c 4 (t := 4) rfl rfl) $$ H; iintro H
  iapply (recv_phase m K c 5 (t := 5) rfl rfl) $$ H; iintro H
  iapply (recv_phase m K c 6 (t := 6) rfl rfl) $$ H; iintro H
  iapply (recv_phase m K c 7 (t := 7) rfl rfl) $$ H; iintro H
  icases H with ⟨-, Hp, HO⟩
  ihave Hp := (recv_end m c) $$ Hp
  icases Hp with ⟨Htheirs, Hz4⟩
  -- the device's own sends
  ihave Hp := (drain_begin m c) $$ [Hb1 Hb3]
  · isplitl [Hb1] <;> iassumption
  iapply (drain_phase m K c 0 (t := 0) rfl rfl rfl rfl) $$ [Hp HO]
  · isplitr; · iexact HRL
    isplitl [Hp] <;> iassumption
  iintro H
  iapply (drain_phase m K c 1 (t := 1) rfl rfl rfl (xBlk_credit _ _)) $$ H; iintro H
  iapply (drain_phase m K c 2 (t := 2) rfl rfl rfl (xBlk_credit _ _)) $$ H; iintro H
  iapply (drain_phase m K c 3 (t := 3) rfl rfl rfl (xBlk_credit _ _)) $$ H; iintro H
  iapply (drain_phase m K c 4 (t := 4) rfl rfl rfl (xBlk_credit _ _)) $$ H; iintro H
  iapply (drain_phase m K c 5 (t := 5) rfl rfl rfl (xBlk_credit _ _)) $$ H; iintro H
  iapply (drain_phase m K c 6 (t := 6) rfl rfl rfl (xBlk_credit _ _)) $$ H; iintro H
  iapply (drain_phase m K c 7 (t := 7) rfl rfl rfl (xBlk_credit _ _)) $$ H; iintro H
  icases H with ⟨-, Hp, HO⟩
  ihave Hp := (drain_end m c) $$ Hp
  icases Hp with ⟨⟨⟨Hs, Hsends⟩, Hmine⟩, Hz1, Hz3⟩
  -- everything back together
  unfold run
  rw [wp_ret, owed_done]
  imodintro
  iapply Hend
  unfold zeros
  rw [bigSep_oi]
  isplitl [Hzbar Hzst Hz0 Hz1 Hz2 Hz3 Hz4]
  · isplitl [Hzbar]; · iexact Hzbar
    isplitl [Hzst]; · iexact Hzst
    isplitl [Hz0]; · iexact Hz0
    isplitl [Hz1]; · iexact Hz1
    isplitl [Hz2]; · iexact Hz2
    isplitl [Hz3] <;> iassumption
  isplitl [Hkeep Hsend0 Hsends Hrest]
  · iapply (x_split m c).2
    isplitr [Hrest]
    · isplitl [Hkeep]; · iexact Hkeep
      iapply (Entails.of_eq (bigSep_univ_at (fun k => sendPts m c k) (0 : Fin 8)).symm)
      isplitl [Hsend0] <;> iassumption
    · iexact Hrest
  isplitl [Hy Hk Hs]
  · isplitl [Hy]; · iexists _; iapply (Entails.of_eq (y_split c _).symm); iexact Hy
    isplitl [Hk]; · iexists _; iapply (Entails.of_eq (k_split c _).symm); iexact Hk
    iexists _; iapply (Entails.of_eq (s_whole c _).symm); iexact Hs
  isplitl [Hmine Htheirs]
  · iapply (Entails.of_eq (out_split c _).symm)
    isplitl [Hmine] <;> iassumption
  iexact HO

end Cert.KernelIdeal.Own
-- ==== Proof.OnKernelIdeal.Deal.lean ====
/-
# 01_k — dealing the semaphores

Before the four bodies start, every semaphore of every device is put under the schedule, and the rights to raise them are
dealt out: a device keeps those of its own copies and sends and takes over those of its peers' barriers and receipts.
-/
module

public import proofs.«01_k».proof.Proof.OnKernelIdeal.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The cells and the rights minted -/

theorem chunkS_inj {p q : Fin 5} {k l : Fin 8} (h : chunkS p k = chunkS q l) : p = q ∧ k = l := by
  have h' : 2 + 8 * p.val + k.val = 2 + 8 * q.val + l.val := congrArg Fin.val h
  have := k.isLt; have := l.isLt
  exact ⟨Fin.ext (by omega), Fin.ext (by omega)⟩

theorem csem_inj : Function.Injective csem := by
  rintro (⟨⟩ | ⟨⟩ | ⟨p, k⟩) (⟨⟩ | ⟨⟩ | ⟨q, l⟩) h
  · rfl
  · cases h
  · cases h
  · cases h
  · rfl
  · have h' : 1 = 2 + 8 * q.val + l.val := congrArg Fin.val (SemLoc.dma.inj h)
    omega
  · cases h
  · have h' : 2 + 8 * p.val + k.val = 1 := congrArg Fin.val (SemLoc.dma.inj h)
    omega
  · obtain ⟨rfl, rfl⟩ := chunkS_inj (SemLoc.dma.inj h)
    rfl

theorem kcell_inj : Function.Injective kcell := by
  rintro ⟨c, i⟩ ⟨d, j⟩ h
  have h1 : c = d := congrArg (fun g : GSem nD τ sig => g.1.1) h
  have h2 : i = j := csem_inj (congrArg Prod.snd h)
  rw [h1, h2]

/-- Every semaphore the exchange uses, and for each the rights to the two duties it may have. -/
def cells : Finset (GSem nD τ sig) := Finset.univ.map ⟨kcell, kcell_inj⟩
abbrev right (x : Dev nD × CI × Bool) : GSem nD τ sig × ℕ × Bool := (kcell (x.1, x.2.1), 0, x.2.2)
theorem right_inj : Function.Injective right := by
  rintro ⟨c, i, a⟩ ⟨d, j, b⟩ h
  have h1 := kcell_inj (congrArg Prod.fst h)
  have h2 : a = b := congrArg (fun y : GSem nD τ sig × ℕ × Bool => y.2.2) h
  cases h1; cases h2; rfl
def rights : Finset (GSem nD τ sig × ℕ × Bool) := Finset.univ.map ⟨right, right_inj⟩

def u₀ : UU := (initOf (Pipeline.cells cfgs cellOf_inj) (Pipeline.launchToks cfgs cellOf_inj), initOf cells rights)

/-- The rights of device `c`'s own semaphores. -/
def minted (c : Dev nD) : sProp 𝕄 :=
  bigSep Finset.univ fun i : CI => bigSep Finset.univ fun b : Bool => dutyTok ER (kcell (c, i)) 0 b
/-- What the launch element deals device `c`. -/
def G (c : Dev nD) : sProp 𝕄 :=
  iprop((bigSep Finset.univ fun i : CI => roundState ER (sched m) (kcell (c, i)) 0)
    ∗ (bigSep Finset.univ fun i : CI => atPos ER (kcell (c, i)) 0 ∅ 0) ∗ (bigSep Finset.univ fun i : CI => reached ER (kcell (c, i)) 0) ∗ minted c)

theorem over_cells (Φ : GSem nD τ sig → sProp 𝕄) :
    bigSep cells Φ = bigSep Finset.univ fun c : Dev nD => bigSep Finset.univ fun i : CI => Φ (kcell (c, i)) := by
  unfold cells; rw [bigSep_map, BI.bigSep_univ_prod]; rfl
theorem over_rights : bigSep rights (fun x => (dutyTok ER x.1 x.2.1 x.2.2 : sProp 𝕄)) = bigSep Finset.univ fun c : Dev nD => minted c := by
  unfold rights minted
  rw [bigSep_map, BI.bigSep_univ_prod]
  exact bigSep_congr fun c _ => BI.bigSep_univ_prod _

theorem fund_all : BI.own (ER (initOf cells rights)) ⊢ (|==> bigSep Finset.univ (G m) : sProp 𝕄) := by
  iintro H
  imod (Rounds.fund ER (sched m) cells rights) $$ H with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_rights) $$ Htok
  unfold G; simp only [bigSep_sep']
  isplitl [Hst]; · iexact Hst
  isplitl [Hat]; · iexact Hat
  isplitl [Hr] <;> iassumption

/-! ## The semaphores put under the schedule -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_ci (Φ : CI → sProp 𝕄) : bigSep Finset.univ Φ = iprop(Φ (.inl ()) ∗ bigSep Finset.univ fun o : OI => Φ (.inr o)) := by
  rw [BI.bigSep_univ_sum, bigSep_univ_eq_bigSepL [()] (by decide) (by decide)]; rfl

theorem semVals_eq (c : Dev nD) : (bigSep Finset.univ fun i : CI => semVal (kcell (c, i)) 0 : sProp 𝕄)
    = iprop(unscopedSems0 c ∗ Pipeline.ownSems0 (Ix := Unit) (Name := ℕ) (U := UU) (Lvl := ℕ) (Val := Elt F) (τ := τ) osem c) := by
  rw [bigSep_ci, unscopedSems0_eq]; rfl

/-- One device's semaphores, each put under its own invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i => atPos ER (kcell (c, i)) 0 ∅ 0) ∗ (bigSep Finset.univ fun i => reached ER (kcell (c, i)) 0) ∗ minted c) := by
  have alloc : iprop((bigSep Finset.univ fun i : CI => semVal (kcell (c, i)) 0) ∗ bigSep Finset.univ fun i : CI => roundState ER (sched m) (kcell (c, i)) 0)
      ⊢ (|={Set.univ}=> bigSep Finset.univ fun i => iprop(∃ κ : ℕ, cellInv ER (sched m) κ (kcell (c, i))) : sProp 𝕄) := by
    rw [← bigSep_sep']
    exact (bigSep_mono fun i _ => (Rounds.body_intro ER (sched m) (kcell (c, i))).trans inv_alloc).trans (bigSep_fupd _ _)
  unfold G
  iintro ⟨Ho, Hu, Hst, Hat, Hr, Htok⟩
  ihave Hv := (Entails.of_eq (semVals_eq (F := F) c).symm) $$ [Ho Hu]
  · isplitl [Hu] <;> iassumption
  imod alloc $$ [Hv Hst] with HI
  · isplitl [Hv] <;> iassumption
  imodintro
  isplitl [HI]; · iexact HI
  isplitl [Hat]; · iexact Hat
  isplitl [Hr] <;> iassumption

/-! ## The rights dealt out -/

/-- The rights device `c` exercises: both peers' barriers, its copies and sends, its peers' receipts. -/
def dealt (c : Dev nD) : sProp 𝕄 :=
  iprop(dutyTok ER (barCell (yp c)) 0 true ∗ dutyTok ER (barCell (xp c)) 0 false ∗ ticket c st
    ∗ (bigSep Finset.univ fun k => ticket c (ch 0 k)) ∗ (bigSep Finset.univ fun k => ticket c (ch 1 k)) ∗ (bigSep Finset.univ fun k => ticket (yp c) (ch 2 k))
    ∗ (bigSep Finset.univ fun k => ticket c (ch 3 k)) ∗ (bigSep Finset.univ fun k => ticket (xp c) (ch 4 k)))

theorem minted_split (c : Dev nD) : (minted c : sProp 𝕄)
    ⊢ iprop(dutyTok ER (barCell c) 0 true ∗ dutyTok ER (barCell c) 0 false ∗ ticket c st
      ∗ (bigSep Finset.univ fun k => ticket c (ch 0 k)) ∗ (bigSep Finset.univ fun k => ticket c (ch 1 k)) ∗ (bigSep Finset.univ fun k => ticket c (ch 2 k))
      ∗ (bigSep Finset.univ fun k => ticket c (ch 3 k)) ∗ (bigSep Finset.univ fun k => ticket c (ch 4 k))) := by
  unfold minted
  have two : (bigSep Finset.univ fun b : Bool => dutyTok ER (kcell (c, .inl ())) 0 b : sProp 𝕄)
      = iprop(dutyTok ER (barCell c) 0 true ∗ dutyTok ER (barCell c) 0 false) := bigSep_bool _
  rw [bigSep_ci, two]
  have drop : (bigSep Finset.univ fun o : OI => bigSep Finset.univ fun b : Bool => dutyTok ER (kcell (c, .inr o)) 0 b : sProp 𝕄)
      ⊢ bigSep Finset.univ fun o : OI => ticket c o := bigSep_mono fun o _ => bigSep_elim (Finset.mem_univ false)
  iintro ⟨⟨Ht, Hf⟩, Ho⟩
  ihave Ho := (drop.trans (Entails.of_eq (bigSep_oi _))) $$ Ho
  isplitl [Ht]; · iexact Ht
  isplitl [Hf]; · iexact Hf
  iexact Ho

/-- Dealt to the peers: a barrier's first right and the receipts over the row to the row peer, its second right and the
    receipts over the column to the column peer. -/
theorem deal_around : (bigSep Finset.univ fun c : Dev nD => (minted c : sProp 𝕄)) ⊢ bigSep Finset.univ fun c : Dev nD => dealt c := by
  refine (bigSep_mono fun c _ => minted_split c).trans ?_
  unfold dealt
  simp only [bigSep_sep']
  rw [BI.bigSep_univ_equiv yE (fun c : Dev nD => (dutyTok ER (barCell c) 0 true : sProp 𝕄)),
    BI.bigSep_univ_equiv xE (fun c : Dev nD => (dutyTok ER (barCell c) 0 false : sProp 𝕄)),
    BI.bigSep_univ_equiv yE (fun c : Dev nD => bigSep Finset.univ fun k => (ticket c (ch 2 k) : sProp 𝕄)),
    BI.bigSep_univ_equiv xE (fun c : Dev nD => bigSep Finset.univ fun k => (ticket c (ch 4 k) : sProp 𝕄))]
  exact Entails.refl _

/-- What each device holds of the schedule once everything is dealt. -/
def held (c : Dev nD) : sProp 𝕄 := iprop((bigSep Finset.univ fun i : CI => atPos ER (kcell (c, i)) 0 ∅ 0) ∗ dealt c)
def G' (c : Dev nD) : sProp 𝕄 := iprop(∃ K, records m K ∗ held c)

theorem regroup :
    (bigSep Finset.univ fun c : Dev nD => iprop((bigSep Finset.univ fun i => iprop(∃ κ : ℕ, cellInv ER (sched m) κ (kcell (c, i))))
          ∗ (bigSep Finset.univ fun i => atPos ER (kcell (c, i)) 0 ∅ 0) ∗ (bigSep Finset.univ fun i => reached ER (kcell (c, i)) 0) ∗ minted c) : sProp 𝕄)
      ⊢ bigSep Finset.univ (G' m) := by
  rw [bigSep_sep', bigSep_sep', bigSep_sep', ← BI.bigSep_univ_prod (fun ck : Dev nD × CI => iprop(∃ κ : ℕ, cellInv ER (sched m) κ (kcell ck))),
    ← BI.bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (sched m) κ (kcell ck) : sProp 𝕄))) $$ HI
  icases HK with ⟨%K, #HI⟩
  ihave #Hrec := (show iprop((bigSep Finset.univ fun ck : Dev nD × CI => cellInv ER (sched m) (K ck) (kcell ck))
      ∗ bigSep Finset.univ fun ck : Dev nD × CI => reached ER (kcell ck) 0) ⊢ (records m K : sProp 𝕄) from Entails.refl _) $$ [HI HR]
  · isplitl [HI]; · iexact HI
    iexact HR
  ihave Htok := (deal_around (F := F)) $$ Htok
  ihave Hall := (Entails.of_eq (bigSep_sep' Finset.univ (fun c : Dev nD => bigSep Finset.univ fun i : CI => (atPos ER (kcell (c, i)) 0 ∅ 0 : sProp 𝕄)) dealt).symm) $$ [Hat Htok]
  · isplitl [Hat] <;> iassumption
  ihave Hrecs := (BI.bigSep_of_persistent (Finset.univ : Finset (Dev nD)) (records (F := F) m K)) $$ Hrec
  ihave Hall := (Entails.of_eq (bigSep_sep' Finset.univ (fun _ : Dev nD => records m K) (fun c => (held c : sProp 𝕄))).symm) $$ [Hrecs Hall]
  · isplitl [Hrecs]; · iexact Hrecs
    iexact Hall
  have close : (bigSep Finset.univ fun c : Dev nD => iprop(records m K ∗ held c) : sProp 𝕄) ⊢ bigSep Finset.univ (G' m) :=
    bigSep_mono fun c _ => exists_intro (Φ := fun K => iprop(records m K ∗ held c)) K
  iapply close; iexact Hall

/-- All devices at once: from their semaphores at zero to what each holds of the schedule. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_iff {a b : Dev nD} : Iff (barCell a = barCell b) (a = b) :=
  ⟨fun h => congrArg (fun g : GSem nD τ sig => g.1.1) h, fun h => h ▸ rfl⟩
theorem chunk_iff {a b : Dev nD} {p q : Fin 5} {k l : Fin 8} : Iff (chunkCell a p k = chunkCell b q l) (a = b ∧ p = q ∧ k = l) :=
  ⟨fun h => ⟨congrArg (fun g : GSem nD τ sig => g.1.1) h, chunkS_inj (SemLoc.dma.inj (congrArg Prod.snd h))⟩, fun ⟨h1, h2, h3⟩ => by rw [h1, h2, h3]⟩
theorem bar_ne_chunk {a b : Dev nD} {p : Fin 5} {k : Fin 8} : barCell a ≠ chunkCell b p k := fun h => by cases congrArg Prod.snd h

/-- The chunks owed to one device at one of its semaphores. -/
theorem sum_chunk (c d : Dev nD) (p q : Fin 5) (k : Fin 8) :
    (∑ l ∈ Finset.univ.filter (fun l : Fin 8 => 0 ≤ l.val), (tallyAt (chunkCell d q l) () N : CellTallies nD τ sig Unit)) (chunkCell c p k) ()
      = if d = c ∧ q = p then N else 0 := by
  rw [Finset.sum_apply, Finsupp.finset_sum_apply, Finset.filter_true_of_mem fun l _ => Nat.zero_le _]
  simp only [tallyAt_apply, chunk_iff]
  by_cases h : d = c ∧ q = p
  · obtain ⟨rfl, rfl⟩ := h
    rw [if_pos ⟨rfl, rfl⟩, Finset.sum_eq_single k]
    · rw [if_pos ⟨⟨rfl, rfl, rfl⟩, trivial⟩]
    · intro l _ hl; rw [if_neg]; rintro ⟨⟨-, -, h⟩, -⟩; exact hl h.symm
    · intro h; exact absurd (Finset.mem_univ _) h
  · rw [if_neg h]
    exact Finset.sum_eq_zero fun l _ => if_neg fun h' => h ⟨h'.1.1.symm, h'.1.2.1.symm⟩
theorem sum_bar (c d : Dev nD) (q : Fin 5) :
    (∑ l ∈ Finset.univ.filter (fun l : Fin 8 => 0 ≤ l.val), (tallyAt (chunkCell d q l) () N : CellTallies nD τ sig Unit)) (barCell c) () = 0 := by
  rw [Finset.sum_apply, Finsupp.finset_sum_apply]
  exact Finset.sum_eq_zero fun l _ => by rw [tallyAt_ne_cell bar_ne_chunk]; rfl

theorem yp_eq {c d : Dev nD} : Iff (yp d = c) (d = yp c) := ⟨fun h => by rw [← h, yp_yp], fun h => by rw [h, yp_yp]⟩
theorem xp_eq {c d : Dev nD} : Iff (xp d = c) (d = xp c) := ⟨fun h => by rw [← h, xp_xp], fun h => by rw [h, xp_xp]⟩

/-- What device `d` owes device `c` at its barrier, at a receipt over the row, at a receipt over the column. -/
theorem owed_bar (c d : Dev nD) : owed₀ d (barCell c) () = (if d = xp c then 1 else 0) + (if d = yp c then 1 else 0) := by
  unfold owed₀ owed₁ owed oweX oweY
  simp only [Pi.add_apply, Finsupp.add_apply]
  rw [sum_bar, sum_bar, tallyAt_apply, tallyAt_apply, zero_add, zero_add]
  simp only [bar_iff, and_true, eq_comm (a := c), xp_eq, yp_eq]
theorem owed_row (c d : Dev nD) (k : Fin 8) : owed₀ d (chunkCell c 2 k) () = if d = yp c then N else 0 := by
  unfold owed₀ owed₁ owed oweX oweY
  simp only [Pi.add_apply, Finsupp.add_apply]
  rw [sum_chunk, sum_chunk, tallyAt_ne_cell bar_ne_chunk.symm, tallyAt_ne_cell bar_ne_chunk.symm, if_neg (fun h => absurd h.2 (by decide))]
  simp only [Finsupp.coe_zero, Pi.zero_apply, zero_add, add_zero, and_true, yp_eq]
theorem owed_col (c d : Dev nD) (k : Fin 8) : owed₀ d (chunkCell c 4 k) () = if d = xp c then N else 0 := by
  unfold owed₀ owed₁ owed oweX oweY
  simp only [Pi.add_apply, Finsupp.add_apply]
  rw [sum_chunk, sum_chunk, tallyAt_ne_cell bar_ne_chunk.symm, tallyAt_ne_cell bar_ne_chunk.symm, if_neg (c := yp d = c ∧ (2 : Fin 5) = 4) (fun h => absurd h.2 (by decide))]
  simp only [Finsupp.coe_zero, Pi.zero_apply, zero_add, add_zero, and_true, xp_eq]

/-- The launch's credit at a semaphore is what all devices together owe it. -/
theorem credit_eq (g : GSem nD τ sig) (n : ℕ) (h : ∑ d : Dev nD, owed₀ d g () = n) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same, h]
theorem sum_one (e : Dev nD) (n : ℕ) : ∑ d : Dev nD, (if d = e then n else 0) = n := by
  rw [Finset.sum_ite_eq', if_pos (Finset.mem_univ _)]

theorem creds (c : Dev nD) : (Pipeline.launchCred owed₀ c : sProp 𝕄)
    ⊢ iprop(cred (tallyAt (barCell c) () 2) ∗ (bigSep Finset.univ fun k => cred (tallyAt (chunkCell c 2 k) () N))
      ∗ (bigSep Finset.univ fun k => cred (tallyAt (chunkCell c 4 k) () N))) := by
  have hb := credit_eq (barCell c) 2 (by simp only [owed_bar, Finset.sum_add_distrib, sum_one])
  have hy k := credit_eq (chunkCell c 2 k) N (by simp only [owed_row, sum_one])
  have hx k := credit_eq (chunkCell c 4 k) N (by simp only [owed_col, sum_one])
  have at_cells : (Pipeline.launchCred owed₀ c : sProp 𝕄)
      ⊢ bigSep Finset.univ fun i : CI => cred (tallyOn (kcell (c, i)) (launchCredit (Pipeline.owing owed₀) 0 (kcell (c, i)))) := by
    unfold Pipeline.launchCred
    refine (bigSep_subset (Finset.subset_univ (Finset.univ.map ⟨csem, csem_inj⟩))).trans ?_
    rw [bigSep_map]; exact Entails.refl _
  refine at_cells.trans ?_
  rw [bigSep_ci, bigSep_oi]
  rw [← hb, ← funext (fun k => congrArg cred (hy k)), ← funext (fun k => congrArg cred (hx k))]
  iintro ⟨Hb, -, -, -, Hy, -, Hx⟩
  isplitl [Hb]; · iexact Hb
  isplitl [Hy]; · iexact Hy
  iexact Hx

end Cert.KernelIdeal.Own
-- ==== Proof.OnKernelIdeal.Launch.lean ====
/-
# 01_k — the run of the kernel

The four bodies launched together: every run ends, the operand is unchanged, every semaphore is back at zero, and each
device's result is the sum's block of its column.
-/
module

public import proofs.«01_k».proof.Proof.OnKernelIdeal.Deal
public import proofs.«01_k».proof.Proof.Gen.KernelIdeal.Points
public import Idealize.ShloMosaic.Lib.Pipeline.Value
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one window -/

/-- The operand on device `c`, whole. -/
def operand (c : Dev nD) : sProp 𝕄 := ((c : Thread nD τ).loc main_arg0) ↦{fullShare} X m c
/-- What a body starts from, its scratch apart. -/
def start (c : Dev nD) : sProp 𝕄 := iprop((∃ K, records m K ∗ levAts L lv ∗ semsOwn c) ∗ operand m c)
def Φ₀ (c : Dev nD) : sProp 𝕄 := iprop(start m c ∗ scr c)
/-- What it ends with. -/
def Φ₁ (c : Dev nD) : sProp 𝕄 := iprop(zeros c ∗ operand m c ∗ scr c)

def dats (_ : Fin 1) (c : Dev nD) : Dat τ (Elt F) Unit ℕ UU ℕ cfg0 c where
  A w := m ((cfg0.win w).arr.view.loc (c : Thread nD τ))
  after w _ := match w with | ⟨0, _⟩ => outX m c
  Φ t := match t with
    | ⟨0, _⟩ => Φ₀ m c
    | ⟨_ + 1, _⟩ => Φ₁ m c
  q _ := fullShare
  owed t := match t with
    | ⟨0, _⟩ => owed₀ c
    | ⟨_ + 1, _⟩ => 0

/-- Owning a whole buffer at some contents is its points-to. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- The window's buffer on device `c` at some contents. -/
def window (c : Dev nD) (Y : cc0_stg0_0.ty.Contents (Elt F)) : sProp 𝕄 :=
  iprop(∃ f : Buf (Elt F) ((c : Thread nD τ).loc cc0_stg0_0), ⌜f = Y⌝ ∗ (((c : Thread nD τ).loc cc0_stg0_0) ↦{fullShare} f))

set_option maxRecDepth 8000 in
/-- The body at the one point. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc ∗ (∃ d, window c ((dats m 0 c).before (0 : Fin 1) t0_0 d)))
    ⊢ run c (cc0_body (Memref.whole main_arg0) (Memref.isWhole_whole _) (Memref.whole cc0_stg0_0) (Memref.isWhole_whole _)
        (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 cc0_scratch7 cc0_scratch8)
      (fun _ => iprop(Φ₁ m c ∗ (dats m 0 c).owesAt () t0_0.succ ∗ window c (outX m c)))
  unfold Φ₀ start operand window
  iintro ⟨⟨⟨⟨%K, #HR, #HL, Hs⟩, Hx⟩, Hscr⟩, Ho, ⟨%d, ⟨%f, -, Hf⟩⟩⟩
  unfold Dat.owesAt Pipeline.owesWithin
  icases Ho with ⟨%W, -, HO⟩
  iapply (exchange m K c f _)
  isplitl [Hs Hx Hscr Hf HO]
  · isplitr
    · isplitl <;> iassumption
    isplitl [Hs]; · iexact Hs
    isplitl [Hx]; · iexact Hx
    isplitl [Hscr]; · iexact Hscr
    isplitl [Hf]; · iexact Hf
    unfold ow; iexists W; iexact HO
  unfold ow
  iintro ⟨Hz, Hx, Hscr, Hf, ⟨%W', HO⟩⟩
  unfold Φ₁ operand
  isplitl [Hz Hx Hscr]
  · isplitl [Hz]; · iexact Hz
    isplitl [Hx] <;> iassumption
  isplitl [HO]
  · iexists W'
    isplitr; · ipureintro; exact fun _ _ => Or.inl trivial
    iexact HO
  iexists _
  isplitr; · ipureintro; rfl
  iexact Hf

/-! ## The launch -/

theorem ownSemFacts : Pipeline.OwnSemFacts cfg0.spec osem where
  isScoped := fun | .inl _ => rfl | .inr pk => by revert pk; decide
  inj a b h := Sum.inr_injective (csem_inj (a₁ := .inr a) (a₂ := .inr b) h)
  disj := fun
    | .inl () => by decide
    | .inr pk => by revert pk; decide

/-- Positions and rights, semaphore by semaphore. -/
theorem idle_all (c : Dev nD) (p : Fin 5) :
    (bigSep Finset.univ fun k => (idle c (ch p k) : sProp 𝕄))
      = iprop((bigSep Finset.univ fun k => atPos ER (ocell c (ch p k)) 0 ∅ 0) ∗ bigSep Finset.univ fun k => ticket c (ch p k)) := bigSep_sep' ..
theorem busy_all (c : Dev nD) (p : Fin 5) :
    (bigSep Finset.univ fun k => (busy c (ch p k) : sProp 𝕄))
      = iprop((bigSep Finset.univ fun k => atPos ER (ocell c (ch p k)) 0 ∅ 0) ∗ bigSep Finset.univ fun k => cred (tallyAt (chunkCell c p k) () N)) := bigSep_sep' ..

/-- What is held of the schedule, with the credits, is what the body starts from. -/
theorem sems_intro (c : Dev nD) : iprop(held c ∗ Pipeline.launchCred owed₀ c) ⊢ (semsOwn c : sProp 𝕄) := by
  unfold held dealt semsOwn barOwn
  rw [bigSep_ci, bigSep_oi, idle_all, idle_all, idle_all, busy_all, busy_all]
  iintro ⟨⟨⟨HaB, Ha, Ha0, Ha1, Ha2, Ha3, Ha4⟩, HtY, HtX, Ht, Ht0, Ht1, Ht2, Ht3, Ht4⟩, Hcr⟩
  ihave Hcr := (creds (F := F) c) $$ Hcr
  icases Hcr with ⟨HcB, Hc2, Hc4⟩
  isplitl [HaB HcB HtY HtX]
  · isplitl [HaB]; · iexact HaB
    isplitl [HcB]; · iexact HcB
    isplitl [HtY] <;> iassumption
  isplitl [Ha Ht]
  · unfold idle ticket; isplitl [Ha]; · iexact Ha
    iexact Ht
  isplitl [Ha0 Ht0]; · isplitl [Ha0] <;> iassumption
  isplitl [Ha1 Ht1]; · isplitl [Ha1] <;> iassumption
  isplitl [Ha3 Ht3]; · isplitl [Ha3] <;> iassumption
  isplitl [Ht2]; · iexact Ht2
  isplitl [Ht4]; · iexact Ht4
  isplitl [Ha2 Hc2]; · isplitl [Ha2] <;> iassumption
  isplitl [Ha4] <;> iassumption

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, show Pipeline.unscopedRest cfg0.spec c (fun b => m ((c : Thread nD τ).loc b)) = operand (F := F) m c from unscopedRest0_eq c _]
  unfold G' start
  iintro ⟨Hx, Hlev, Hcr, -, ⟨%K, HR, Hh⟩⟩
  imodintro
  isplitl
  · isplitr [Hx]
    · iexists K
      isplitl [HR]; · iexact HR
      isplitl [Hlev]; · iexact Hlev
      iapply (sems_intro (F := F) c)
      isplitl [Hh] <;> iassumption
    · iexact Hx
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = scr (F := F) c from scopedRest0_eq c]
  unfold Φ₀
  iintro ⟨Hs, -, Hr⟩
  isplitl [Hs] <;> iassumption

theorem last_exit (c : Dev nD) :
    (dats m 0 c).Φ (Fin.last cfg0.N) ⊢ iprop((operand m c ∗ unscopedSems0 c) ∗ Pipeline.ownSems0 osem c ∗ Pipeline.scopedRest cfg0.spec c) := by
  rw [show (dats m 0 c).Φ (Fin.last cfg0.N) = Φ₁ m c from rfl, show Pipeline.scopedRest cfg0.spec c = scr (F := F) c from scopedRest0_eq c, unscopedSems0_eq]
  unfold Φ₁ zeros Pipeline.ownSems0
  iintro ⟨⟨Hb, Ho⟩, Hx, Hr⟩
  isplitl [Hx Hb]
  · isplitl [Hx] <;> iassumption
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by fin_cases w <;> fin_cases s <;> decide)
    · show levAts L lv ⊢ MayWait _ _ _ 0
      rw [MayWait_zero]; iintro -; iempintro

/-- The operand and the unscoped semaphores, read off the final state. -/
theorem final_read (c : Dev nD) (s' : Phys nD τ sig (Elt F)) :
    iprop((operand m c ∗ unscopedSems0 c) ∗ emp ∗ SI s')
      ⊢ |={Set.univ}=> iprop(⌜s'.mem.mem ((c : Thread nD τ).loc main_arg0) = X m c
          ∧ ∀ sm : SemLoc sig, sm.isScoped .tc = false → s'.mem.sem ((c.tc : Thread nD τ), sm) = 0⌝ ∗ SI s') := by
  unfold operand
  iintro ⟨⟨Hx, Hu⟩, -, HSI⟩
  imod (Pipeline.unscopedSems0_read (X := unscopedSems0 c) (c := c) fupd_intro s') $$ [Hu HSI] with ⟨%hu, HSI⟩
  · isplitl [Hu] <;> iassumption
  icombine HSI Hx gives %hx
  imodintro
  isplitr
  · ipureintro; exact ⟨Buf.eq_of_forall_mem_univ hx, hu⟩
  iexact HSI

/-! ## The result's array -/

/-- The one block written back is the whole array. -/
theorem array_eq (c : Dev nD) : (dats m 0 c).arrAt (0 : Fin 1) cfg0.N = outX m c := by
  refine (dats m 0 c).arrAt_eq_of_cover (0 : Fin 1) (outX m c) (fun t _ => ?_) fun i => ⟨t0_0, flush0_0 t0_0, ?_⟩
  · rw [fin_N0 t]
    unfold Dat.flushed
    rw [show (dats m 0 c).after (0 : Fin 1) t0_0 = outX m c from rfl]
    funext x
    exact congrArg (outX m c) (funext fun a => Fin.ext (show (x a).val = 0 * win0_0.size a + 1 * (x a).val by omega))
  · show i ∈ ((View.whole main_v1).slice (win0_0.rect t0_0)).set
    rw [View.set_slice_whole, Rect.mem_set_unit]
    intro a
    have ha : (i a).val < win0_0.size a := (i a).isLt
    show 0 * win0_0.size a ≤ (i a).val ∧ (i a).val < 0 * win0_0.size a + win0_0.size a
    omega

/-! ## The run -/

set_option maxRecDepth 8000 in
/-- From any memory with the semaphores at zero, every run of the kernel ends, with each device's result the two row
    peers' sum in its column's half of the columns, its operand unchanged, and every semaphore at zero. -/
theorem run_main : θ_run defs (onTc (τ := τ) (main (F := F))) ⟨m, fun _ => 0, ρ⟩ (fun r =>
    (∀ c : Dev nD, r.2.mem ((c : Thread nD τ).loc main_v1) = outX m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(operand m c ∗ unscopedSems0 c)) (Z := fun _ => iprop(emp))
    (hX := start_intro m ρ) (hin := first_intro m) (hout := last_exit m)
    (QY := fun c s => s.mem ((c : Thread nD τ).loc main_arg0) = X m c ∧ ∀ sm : SemLoc sig, sm.isScoped .tc = false → s.sem ((c.tc : Thread nD τ), sm) = 0)
    (hY := final_read m)
    (hQ := fun _ h hs => ⟨fun c => ⟨((h c).1 0).trans (array_eq m c), (h c).2.2.1⟩, sem_eq_zero hs fun c => (h c).2.2.2⟩)

end Cert.KernelIdeal.Own
-- ==== Proof.Sum.lean ====
/-
# 01_k — the sum

Over the extended reals the reference's result is the sum of the two slices of its argument, and what the kernel leaves
on each device is that device's block of the columns of this sum.
-/
module

public import proofs.«01_k».proof.Proof.OnKernelIdeal.Cells
public import proofs.«01_k».proof.Proof.Gen.ReferenceIdeal.Run
public import Idealize.ShloMosaic.Lib.Layout
public import Idealize.ShloMosaic.Lib.Pointwise.Reduce

@[expose] public section

noncomputable section

namespace Cert.Proof.Sum

open Idealize.ShloMosaic Idealize.ShloMosaic.TcCoe
open Cert.KernelIdeal Cert.KernelIdeal.Own

/-- The whole argument: two slices of 1024 by 1024. -/
abbrev Whole : Type := (⟨3, ![2, 1024, 1024]⟩ : Shape).Idx → EReal

/-- Row `r`, column `q` of slice `d`. -/
abbrev entry (x : Whole) (d : Fin 2) (r q : Fin 1024) : EReal := x (ix3 (n0 := 2) (n1 := 1024) (n2 := 1024) d r q)
/-- The sum of the two slices. -/
def total (x : Whole) : (⟨2, ![1024, 1024]⟩ : Shape).Idx → EReal := fun j => entry x 0 (j 0) (j 1) + entry x 1 (j 0) (j 1)

/-- The reference computes it. -/
theorem reference_eq (x : Whole) :
    Host.reduceAdd (F := Ideal) (φ := .f32) x (constant Cert.ReferenceIdeal.S_ .f32 0x00000000#32)
      Cert.ReferenceIdeal.Facts₀.reducesTo_S2x1024x1024_S1024x1024_d0 Cert.ReferenceIdeal.Facts₀.h_S_ = total x := by
  funext j
  refine (Ideal.hostReduceAdd_r3_a0 _ x (Ideal.ofBits .f32 0x00000000#32) j).trans ?_
  rw [Ideal.ofBits_zero_f32, zero_add, Fin.sum_univ_two]
  rfl

/-- Which slice a device holds. -/
def slice (c : Dev nD) : Fin 2 := ⟨c.val % 2, Nat.mod_lt _ (by decide)⟩

variable (m : (ℓ : Loc nD τ sig) → Buf (Elt Ideal) ℓ) (x : Whole)

/-- The operands are the slices: each device holds the one its place in its row names. -/
def Split : Prop := ∀ c : Dev nD,
  m ((c.tc : Thread nD τ).loc main_arg0) = Layout.blockN ⟨3, ![1, 1024, 1024]⟩ ⟨3, ![2, 1024, 1024]⟩ (Layout.meshBlock [2, 2] ![[1], [], []] c) x

theorem mesh_lin (c : Dev nD) : Layout.meshLin [2, 2] c.val [1] = c.val % 2 := by
  show (c.val / 1) % 2 * 1 + 0 = _; omega

variable {m x}

/-- An entry of a device's operand. -/
theorem operand_entry (h : Split m x) (c : Dev nD) (r q : Fin 1024) :
    X m c (ix3 (n0 := 1) (n1 := 1024) (n2 := 1024) 0 r q) = entry x (slice c) r q := by
  refine (congrFun (h c) _).trans (congrArg x (funext fun b => Fin.ext ?_))
  rw [Layout.TilesN.idx_val]
  match b with
  | ⟨0, _⟩ => show Layout.meshLin [2, 2] c.val [1] * 1 + 0 = c.val % 2; rw [mesh_lin]; omega
  | ⟨1, _⟩ => show 0 * 1024 + r.val = r.val; omega
  | ⟨2, _⟩ => show 0 * 1024 + q.val = q.val; omega

/-- Each device's result is its block of columns of the sum. -/
theorem result_eq (h : Split m x) (c : Dev nD) :
    outX m c = Layout.blockN ⟨2, ![1024, 512]⟩ ⟨2, ![1024, 1024]⟩ (Layout.meshBlock [2, 2] ![[], [1]] c) (total x) := by
  funext i
  have hr : (i (0 : Fin 2)).val < 1024 := (i (0 : Fin 2)).isLt
  have hq : (i (1 : Fin 2)).val < 512 := (i (1 : Fin 2)).isLt
  have hc : c.val % 2 < 2 := Nat.mod_lt _ (by decide)
  let o : Dev nD := owner c (i (0 : Fin 2))
  have hod : o.val / 2 = (i (0 : Fin 2)).val / 512 := by show (2 * ((i (0 : Fin 2)).val / 512) + c.val % 2) / 2 = _; omega
  have hom : o.val % 2 = c.val % 2 := by show (2 * ((i (0 : Fin 2)).val / 512) + c.val % 2) % 2 = _; omega
  let r : Fin 1024 := ⟨(i (0 : Fin 2)).val, hr⟩
  let q : Fin 1024 := ⟨512 * (c.val % 2) + (i (1 : Fin 2)).val, by omega⟩
  have kept : quarter m o (ix2 (n0 := 512) (n1 := 512) ⟨(i (0 : Fin 2)).val % 512, Nat.mod_lt _ (by decide)⟩ (i (1 : Fin 2)))
      = entry x (slice o) r q + entry x (slice (yp o)) r q := by
    refine congrArg₂ (fun a b : EReal => a + b) ((operand_entry h o _ _).trans ?_) ((operand_entry h (yp o) _ _).trans ?_)
    · refine congrArg₂ (entry x (slice o)) (Fin.ext ?_) (Fin.ext ?_)
      · show 512 * (o.val / 2) + (i (0 : Fin 2)).val % 512 = (i (0 : Fin 2)).val; omega
      · show 512 * (o.val % 2) + (i (1 : Fin 2)).val = 512 * (c.val % 2) + (i (1 : Fin 2)).val; omega
    · refine congrArg₂ (entry x (slice (yp o))) (Fin.ext ?_) (Fin.ext ?_)
      · show 512 * ((yp o).val / 2) + (i (0 : Fin 2)).val % 512 = (i (0 : Fin 2)).val; rw [yp_div]; omega
      · show 512 - 512 * ((yp o).val % 2) + (i (1 : Fin 2)).val = 512 * (c.val % 2) + (i (1 : Fin 2)).val; rw [yp_mod]; omega
  have block : (Layout.blockN ⟨2, ![1024, 512]⟩ ⟨2, ![1024, 1024]⟩ (Layout.meshBlock [2, 2] ![[], [1]] c) (total x)) i
      = entry x 0 r q + entry x 1 r q := by
    refine congrArg₂ (fun a b : Fin 1024 => entry x 0 a b + entry x 1 a b) (Fin.ext ?_) (Fin.ext ?_)
    · show 0 * 1024 + (i (0 : Fin 2)).val = (i (0 : Fin 2)).val; omega
    · show Layout.meshLin [2, 2] c.val [1] * 512 + (i (1 : Fin 2)).val = 512 * (c.val % 2) + (i (1 : Fin 2)).val; rw [mesh_lin]; omega
  refine (show outX m c i = _ from kept).trans (Eq.trans ?_ block.symm)
  rcases Nat.lt_or_ge (c.val % 2) 1 with h0 | h0
  · rw [show slice o = 0 from Fin.ext (by show o.val % 2 = 0; omega), show slice (yp o) = 1 from Fin.ext (by show (yp o).val % 2 = 1; rw [yp_mod]; omega)]
  · rw [show slice o = 1 from Fin.ext (by show o.val % 2 = 1; omega), show slice (yp o) = 0 from Fin.ext (by show (yp o).val % 2 = 0; rw [yp_mod]; omega), add_comm]

end Cert.Proof.Sum
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.OnKernel.Launch
public import proofs.«01_k».proof.Proof.OnKernelIdeal.Launch
public import proofs.«01_k».proof.Proof.Sum
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends without fault, with its argument unchanged and every counter at zero. -/
theorem kernel_frame : Cert.quiescent_Kernel := fun m g _ =>
  (θ_run _ _ _).mono (fun _ h => ⟨fun c => (h.1 c).2, h.2⟩) (Cert.Kernel.Own.run_main m g)

/-- So does the kernel over the extended reals. -/
theorem kernelIdeal_frame : Cert.quiescent_KernelIdeal := fun m g _ =>
  (θ_run _ _ _).mono (fun _ h => ⟨fun c => (h.1 c).2, h.2⟩) (Cert.KernelIdeal.Own.run_main m g)

/-- So does the reference, which has no counter at all. -/
theorem referenceIdeal_frame : Cert.quiescent_ReferenceIdeal := fun m g _ =>
  (θ_run _ _ _).mono (fun r h => ⟨fun c => (h c).2, sem_eq_zero_of_no_sems (by decide) r.2⟩)
    (Cert.ReferenceIdeal.Value.run m g)

/-- From operands that are the slices of the reference's argument, each device of the kernel ends with its block of the
columns of the reference's result. -/
theorem value : Cert.algebraic_KernelIdeal_ReferenceIdeal := fun m g m' g' _ split =>
  ⟨Sum.total (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Sum.result_eq split c), (h.1 c).2⟩) (Cert.KernelIdeal.Own.run_main m g),
    (θ_run _ _ _).mono (fun _ h => ⟨(h 0).1.trans (Sum.reference_eq _), (h 0).2⟩) (Cert.ReferenceIdeal.Value.run m' g')⟩

/-- All five claims. -/
theorem claim : Cert.Claim :=
  ⟨Cert.Kernel.Gen.facts, Cert.KernelIdeal.Gen.facts, Cert.ReferenceIdeal.Gen.facts,
    kernel_frame, kernelIdeal_frame, referenceIdeal_frame, trivial, value⟩

end Cert.Proof

end
